-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩

class Facts : Prop where
  reducesTo_S1x10000_S_d0_1 : S1x10000.ReducesTo [0, 1] S_
  h_S_ : 0 < S_.numel
  bcast_S_S1x10000x128 : S_.BroadcastsInDim S1x10000x128 (![] : Fin 0 → Fin S1x10000x128.rank)
  reducesTo_S1x10000x128_S_d0_1_2 : S1x10000x128.ReducesTo [0, 1, 2] S_
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S1x128x128 : S_.BroadcastsInDim S1x128x128 (![] : Fin 0 → Fin S1x128x128.rank)
  reducesTo_S1x128x128_S_d0_1_2 : S1x128x128.ReducesTo [0, 1, 2] S_

variable [Facts]

def fn_part2 {F : FTy → Type} [FloatOps F] (main_v31 : IVec S_ 1) (main_v32 : FVec F S1x128x128 .f32) (main_cst_12 : FVec F S_ .f32) : IVec S_ 1 :=
  let main_v33 : FVec F S1x128x128 .f32 := broadcastInDim S1x128x128 ![] bcast_S_S1x128x128 main_cst_12
  let main_v34 : IVec S1x128x128 1 := cmpf .olt main_v32 main_v33
  let main_c_13 : IVec S_ 1 := constantI S_ 1 1#1
  let main_v35 : IVec S_ 1 := (fun x v => Host.reduce IntOp.andi x v reducesTo_S1x128x128_S_d0_1_2 h_S_) main_v34 main_c_13
  let main_v36 : IVec S_ 1 := andi main_v31 main_v35
  main_v36

def fn_part1 {F : FTy → Type} [FloatOps F] (main_arg7 : FVec F S128x128 .f32) (main_arg8 : FVec F S128 .f32) (main_arg9 : FVec F S1 .f32) (main_arg10 : FVec F S1x128x128 .f32) (main_v11 : IVec S_ 1) (main_v15 : IVec S_ 1) : IVec S_ 1 :=
  let main_v16 : IVec S_ 1 := andi main_v11 main_v15
  let main_v17 : FVec F S128x128 .f32 := Host.absf main_arg7
  let main_cst_6 : FVec F S_ .f32 := constant S_ .f32 0x7F800000#32
  let main_v18 : FVec F S128x128 .f32 := broadcastInDim S128x128 ![] bcast_S_S128x128 main_cst_6
  let main_v19 : IVec S128x128 1 := cmpf .olt main_v17 main_v18
  let main_c_7 : IVec S_ 1 := constantI S_ 1 1#1
  let main_v20 : IVec S_ 1 := (fun x v => Host.reduce IntOp.andi x v reducesTo_S128x128_S_d0_1 h_S_) main_v19 main_c_7
  let main_v21 : IVec S_ 1 := andi main_v16 main_v20
  let main_v22 : FVec F S128 .f32 := Host.absf main_arg8
  let main_cst_8 : FVec F S_ .f32 := constant S_ .f32 0x7F800000#32
  let main_v23 : FVec F S128 .f32 := broadcastInDim S128 ![] bcast_S_S128 main_cst_8
  let main_v24 : IVec S128 1 := cmpf .olt main_v22 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v21 main_v25
  let main_v27 : FVec F S1 .f32 := Host.absf main_arg9
  let main_cst_10 : FVec F S_ .f32 := constant S_ .f32 0x7F800000#32
  let main_v28 : FVec F S1 .f32 := broadcastInDim S1 ![] bcast_S_S1 main_cst_10
  let main_v29 : IVec S1 1 := cmpf .olt main_v27 main_v28
  let main_c_11 : IVec S_ 1 := constantI S_ 1 1#1
  let main_v30 : IVec S_ 1 := (fun x v => Host.reduce IntOp.andi x v reducesTo_S1_S_d0 h_S_) main_v29 main_c_11
  let main_v31 : IVec S_ 1 := andi main_v26 main_v30
  let main_v32 : FVec F S1x128x128 .f32 := Host.absf main_arg10
  let main_cst_12 : FVec F S_ .f32 := constant S_ .f32 0x7F800000#32
  fn_part2 (F := F) main_v31 main_v32 main_cst_12

def fn {F : FTy → Type} [FloatOps F] (main_arg0 : FVec F S1x10000x128 .f32) (main_arg1 : FVec F S1x10000x128 .f32) (main_arg2 : FVec F S1x10000x10000 .f32) (main_arg3 : IVec S_ 32) (main_arg4 : FVec F S1x10000 .f32) (main_arg5 : FVec F S1x10000 .f32) (main_arg6 : FVec F S1x10000 .f32) (main_arg7 : FVec F S128x128 .f32) (main_arg8 : FVec F S128 .f32) (main_arg9 : FVec F S1 .f32) (main_arg10 : FVec F S1x128x128 .f32) (main_arg11 : FVec F S1 .f32) : IVec S_ 1 :=
  let main_cst : FVec F S_ .f32 := constant S_ .f32 0x00000000#32
  let main_v0 : FVec F S_ .f32 := (fun x v => Host.reduceAdd x v reducesTo_S1x10000_S_d0_1 h_S_) main_arg4 main_cst
  let main_cst_0 : FVec F S_ .f32 := constant S_ .f32 0x00000000#32
  let main_v1 : IVec S_ 1 := cmpf .une main_v0 main_cst_0
  let main_v2 : FVec F S1x10000x128 .f32 := Host.absf main_arg0
  let main_cst_1 : FVec F S_ .f32 := constant S_ .f32 0x7F800000#32
  let main_v3 : FVec F S1x10000x128 .f32 := broadcastInDim S1x10000x128 ![] bcast_S_S1x10000x128 main_cst_1
  let main_v4 : IVec S1x10000x128 1 := cmpf .olt main_v2 main_v3
  let main_c : IVec S_ 1 := constantI S_ 1 1#1
  let main_v5 : IVec S_ 1 := (fun x v => Host.reduce IntOp.andi x v reducesTo_S1x10000x128_S_d0_1_2 h_S_) main_v4 main_c
  let main_v6 : IVec S_ 1 := andi main_v1 main_v5
  let main_v7 : FVec F S1x10000x128 .f32 := Host.absf main_arg1
  let main_cst_2 : FVec F S_ .f32 := constant S_ .f32 0x7F800000#32
  let main_v8 : FVec F S1x10000x128 .f32 := broadcastInDim S1x10000x128 ![] bcast_S_S1x10000x128 main_cst_2
  let main_v9 : IVec S1x10000x128 1 := cmpf .olt main_v7 main_v8
  let main_c_3 : IVec S_ 1 := constantI S_ 1 1#1
  let main_v10 : IVec S_ 1 := (fun x v => Host.reduce IntOp.andi x v reducesTo_S1x10000x128_S_d0_1_2 h_S_) main_v9 main_c_3
  let main_v11 : IVec S_ 1 := andi main_v6 main_v10
  let main_v12 : FVec F S1x10000x10000 .f32 := Host.absf main_arg2
  let main_cst_4 : FVec F S_ .f32 := constant S_ .f32 0x7F800000#32
  let main_v13 : FVec F S1x10000x10000 .f32 := broadcastInDim S1x10000x10000 ![] bcast_S_S1x10000x10000 main_cst_4
  let main_v14 : IVec S1x10000x10000 1 := cmpf .olt main_v12 main_v13
  let main_c_5 : IVec S_ 1 := constantI S_ 1 1#1
  let main_v15 : IVec S_ 1 := (fun x v => Host.reduce IntOp.andi x v reducesTo_S1x10000x10000_S_d0_1_2 h_S_) main_v14 main_c_5
  fn_part1 (F := F) main_arg7 main_arg8 main_arg9 main_arg10 main_v11 main_v15
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S10000x10000 : Shape := ⟨2, ![10000, 10000]⟩
abbrev S10000x128 : Shape := ⟨2, ![10000, 128]⟩
abbrev S1x128 : Shape := ⟨2, ![1, 128]⟩
abbrev S2x10000 : Shape := ⟨2, ![2, 10000]⟩
abbrev S400x10000 : Shape := ⟨2, ![400, 10000]⟩
abbrev S10000x256 : Shape := ⟨2, ![10000, 256]⟩
abbrev S1x256 : Shape := ⟨2, ![1, 256]⟩
abbrev S400x256 : Shape := ⟨2, ![400, 256]⟩
abbrev S1x1x10000 : Shape := ⟨3, ![1, 1, 10000]⟩
abbrev S1x1x1 : Shape := ⟨3, ![1, 1, 1]⟩
abbrev S8x256 : Shape := ⟨2, ![8, 256]⟩
abbrev S8x10000 : Shape := ⟨2, ![8, 10000]⟩
abbrev S1x20000 : Shape := ⟨2, ![1, 20000]⟩

abbrev nBuf : Space → Nat
  | .hbm => 19
  | .vmem => 13
  | .smem => 2
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S1x128x128, .f32⟩
  | .hbm, ⟨11, _⟩ => ⟨S1, .f32⟩
  | .hbm, ⟨12, _⟩ => ⟨S10000x10000, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S128x128, .f32⟩
  | .hbm, ⟨17, _⟩ => ⟨S2x10000, .f32⟩
  | .hbm, ⟨18, _⟩ => ⟨S1x20000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S1x10000, .f32⟩
  | .local _ .vmem, ⟨7, _⟩ => ⟨S128x128, .f32⟩
  | .local _ .vmem, ⟨8, _⟩ => ⟨S1x10000, .f32⟩
  | .local _ .vmem, ⟨9, _⟩ => ⟨S1x10000, .f32⟩
  | .local _ .vmem, ⟨10, _⟩ => ⟨S2x10000, .f32⟩
  | .local _ .vmem, ⟨11, _⟩ => ⟨S10000x256, .f32⟩
  | .local _ .vmem, ⟨12, _⟩ => ⟨S10000x256, .bf16⟩
  | .local _ .smem, ⟨0, _⟩ => ⟨S1, .f32⟩
  | .local _ .smem, ⟨1, _⟩ => ⟨S1, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg9_0 : Ref sig .tc := ⟨.smem, 0, rfl⟩
abbrev cc0_stg10_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v19 : BitVec 32 := Scalar.muli arg0 c400_i32
  let v20 : Index := Scalar.indexCast v19
  let c0_8 : Index := 0#32
  ![v20.toNat, 0]
def k0_cond2 (i : grid0.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x10000 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S1x1x128 : Shape := ⟨3, ![1, 1, 128]⟩
abbrev S1x1x1 : Shape := ⟨3, ![1, 1, 1]⟩
abbrev S1x10000x1 : Shape := ⟨3, ![1, 10000, 1]⟩
abbrev S1x128 : Shape := ⟨2, ![1, 128]⟩
abbrev S1x128x1x10000 : Shape := ⟨4, ![1, 128, 1, 10000]⟩
abbrev S1x20000 : Shape := ⟨2, ![1, 20000]⟩

abbrev nBuf : Space → Nat
  | .hbm => 70
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S128x128, .f32⟩
  | .hbm, ⟨8, _⟩ => ⟨S128, .f32⟩
  | .hbm, ⟨9, _⟩ => ⟨S1, .f32⟩
  | .hbm, ⟨10, _⟩ => ⟨S1x128x128, .f32⟩
  | .hbm, ⟨11, _⟩ => ⟨S1, .f32⟩
  | .hbm, ⟨12, _⟩ => ⟨S1x10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .i1⟩
  | .hbm, ⟨20, _⟩ => ⟨S1x1x1, .f32⟩
  | .hbm, ⟨21, _⟩ => ⟨S1x10000x128, .f32⟩
  | .hbm, ⟨22, _⟩ => ⟨S1x10000x128, .f32⟩
  | .hbm, ⟨23, _⟩ => ⟨S1x10000x128, .f32⟩
  | .hbm, ⟨24, _⟩ => ⟨S1x10000x1, .f32⟩
  | .hbm, ⟨25, _⟩ => ⟨S1x10000x128, .f32⟩
  | .hbm, ⟨26, _⟩ => ⟨S1x10000x128, .f32⟩
  | .hbm, ⟨27, _⟩ => ⟨S_, .f32⟩
  | .hbm, ⟨28, _⟩ => ⟨S1x128, .f32⟩
  | .hbm, ⟨29, _⟩ => ⟨S_, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x10000x128, .f32⟩
  | .hbm, ⟨42, _⟩ => ⟨S1x10000x128, .f32⟩
  | .hbm, ⟨43, _⟩ => ⟨S1x1x128, .f32⟩
  | .hbm, ⟨44, _⟩ => ⟨S1x10000x128, .f32⟩
  | .hbm, ⟨45, _⟩ => ⟨S1x10000x128, .f32⟩
  | .hbm, ⟨46, _⟩ => ⟨S_, .f32⟩
  | .hbm, ⟨47, _⟩ => ⟨S1x10000x128, .f32⟩
  | .hbm, ⟨48, _⟩ => ⟨S1x10000x128, .i1⟩
  | .hbm, ⟨49, _⟩ => ⟨S1x1x1, .f32⟩
  | .hbm, ⟨50, _⟩ => ⟨S1x10000x128, .f32⟩
  | .hbm, ⟨51, _⟩ => ⟨S1x10000x128, .f32⟩
  | .hbm, ⟨52, _⟩ => ⟨S1x10000x128, .f32⟩
  | .hbm, ⟨53, _⟩ => ⟨S1x1x128, .f32⟩
  | .hbm, ⟨54, _⟩ => ⟨S1x10000x128, .f32⟩
  | .hbm, ⟨55, _⟩ => ⟨S1x128x1x10000, .f32⟩
  | .hbm, ⟨56, _⟩ => ⟨S1x10000x1, .f32⟩
  | .hbm, ⟨57, _⟩ => ⟨S1x1x1, .f32⟩
  | .hbm, ⟨58, _⟩ => ⟨S1x10000x1, .f32⟩
  | .hbm, ⟨59, _⟩ => ⟨S1x10000x1, .f32⟩
  | .hbm, ⟨60, _⟩ => ⟨S1x10000, .f32⟩
  | .hbm, ⟨61, _⟩ => ⟨S1x10000, .f32⟩
  | .hbm, ⟨62, _⟩ => ⟨S1x128x1x10000, .f32⟩
  | .hbm, ⟨63, _⟩ => ⟨S1x10000x1, .f32⟩
  | .hbm, ⟨64, _⟩ => ⟨S1x1x1, .f32⟩
  | .hbm, ⟨65, _⟩ => ⟨S1x10000x1, .f32⟩
  | .hbm, ⟨66, _⟩ => ⟨S1x10000x1, .f32⟩
  | .hbm, ⟨67, _⟩ => ⟨S1x10000, .f32⟩
  | .hbm, ⟨68, _⟩ => ⟨S1x10000, .f32⟩
  | .hbm, ⟨69, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Proof.Setup.lean ====
/- What the three runs of the kernel's body share: the two branch conditions as facts about the grid point, the
   memrefs the body is called with, and the two scratch buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise.Index

@[expose] public section

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The body's first branch is taken: the grid coordinate is zero. -/
abbrev isFirst (i : grid0.Coords) : Prop :=
  (Scalar.cmpi .ne (Scalar.extui (Scalar.cmpi .eq (BitVec.ofNat 32 (i 0).val) 0#32)) 0#32) = 1#1

/-- The body's second branch is taken: the grid coordinate is the last, 24. -/
abbrev isLast (i : grid0.Coords) : Prop := k0_cond2 i = 1#1

/-- The one grid coordinate of point `t` is `t`. -/
theorem coord_val (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

theorem isFirst_iff (t : Fin cfg0.N) : isFirst (grid0.coords t) ↔ t.val = 0 := by
  have ht : t.val < 25 := Nat.lt_of_lt_of_eq t.isLt N_0
  simp only [isFirst, coord_val]
  word_cmp

theorem isLast_iff (t : Fin cfg0.N) : isLast (grid0.coords t) ↔ t.val = 24 := by
  have ht : t.val < 25 := Nat.lt_of_lt_of_eq t.isLt N_0
  simp only [isLast, k0_cond2, coord_val]
  word_cmp

/-! ## The memrefs -/

/-- The scratch the two feature products are kept in, and the scratch the hidden rows are kept in. -/
abbrev ftsM : Memref sig .tc .vmem S10000x256 .f32 := Memref.whole cc0_scratch0
abbrev hidM : Memref sig .tc .vmem S10000x256 .bf16 := Memref.whole cc0_scratch1

/-- What the region is entered with besides its windows: both scratch buffers at some contents, and the generator. -/
theorem entry_eq (c : Dev nD) :
    (Pipeline.ΦA spec0 c : sProp 𝕄)
      = iprop(iprop((∃ d, owns (c : Thread nD τ) ftsM fullShare d) ∗ (∃ d, owns (c : Thread nD τ) hidM fullShare d))
          ∗ (∃ r, prngReg c r)) := by
  unfold Pipeline.ΦA; rw [scopedRest0_eq]; simp only [ftsM, hidM, owns_whole]; try rfl

end Cert.KernelIdeal.Walk

end
-- ==== Proof.Blocks.lean ====
/- What one run of the body computes, as functions of the blocks it is handed. -/
module

public import proofs.«01_k».proof.Proof.Setup

@[expose] public section

noncomputable section

namespace Cert.KernelIdeal.Walk

open Cert.KernelIdeal.Gen
open Idealize.ShloMosaic Idealize.ShloMosaic.TcCoe Idealize.ShloMosaic.Tactic

variable {F : FTy → Type} [FloatOps F]

/-- The blocks of the eleven inputs at one grid point. -/
structure Blocks (F : FTy → Type) where
  /-- 400 rows of the adjacency matrix -/
  adj : Vec F S400x10000 .f32
  /-- the two feature matrices -/
  s1 : Vec F S10000x128 .f32
  s2 : Vec F S10000x128 .f32
  /-- the layer's weight and bias -/
  w : Vec F S128x128 .f32
  b : Vec F S1x128 .f32
  /-- the readout's mask -/
  msk : Vec F S1x10000 .f32
  /-- the bilinear weight -/
  wb : Vec F S128x128 .f32
  /-- the two score biases -/
  sb1 : Vec F S1x10000 .f32
  sb2 : Vec F S1x10000 .f32
  /-- the slope of the activation and the bilinear bias, one word each -/
  a : Vec F S1 .f32
  bb : Vec F S1 .f32

/-- The contents of the feature scratch: the products of the two feature matrices with the weight, side by side. -/
def feats (x : Blocks F) : Vec F S10000x256 .f32 := fun j =>
  if h : (j 1).val < 128 then k0_pay1 x.w x.s1 (ix2 (j 0) ⟨(j 1).val, h⟩)
  else k0_pay2 x.w x.s2 (ix2 (j 0) ⟨(j 1).val - 128, by
    have : (j 1).val < 256 := (j 1).isLt
    omega⟩)

/-- The 400 hidden rows of a point, from the feature scratch's contents. -/
def rows (x : Blocks F) (fts : Vec F S10000x256 .f32) : FVec F S400x256 .bf16 := k0_pay3 x.b x.adj fts (x.a (ix1 0))

/-- Rows `400 n` to `400 n + 399` replaced by `r`. -/
def putRows (n : ℕ) (r : FVec F S400x256 .bf16) (s : Vec F S10000x256 .bf16) : Vec F S10000x256 .bf16 := fun j =>
  if h : 400 * n ≤ (j 0).val ∧ (j 0).val < 400 * n + 400 then r (ix2 ⟨(j 0).val - 400 * n, by omega⟩ (j 1)) else s j

/-- The left half of the hidden scratch. -/
def leftHalf (s : Vec F S10000x256 .bf16) : Vec F S10000x128 .bf16 := fun j =>
  s (ix2 (j 0) ⟨(j 1).val, by
    have : (j 1).val < 128 := (j 1).isLt
    omega⟩)

/-- The two rows of scores, from the hidden scratch's contents. -/
def scores (x : Blocks F) (s : Vec F S10000x256 .bf16) : Vec F S2x10000 .f32 := fun j =>
  if (j 0).val = 0 then k0_pay4 (x.bb (ix1 0)) (k0_pay7 x.msk (leftHalf s) x.wb s x.sb1) (ix2 0 (j 1))
  else k0_pay5 (k0_pay6 x.msk (leftHalf s) x.wb s) (x.bb (ix1 0)) x.sb2 (ix2 0 (j 1))

end Cert.KernelIdeal.Walk

end
-- ==== Proof.Loads.lean ====
/- The eleven inputs of the body as one resource, and what the body's loads and stores read back as, index by index. -/
module

public import proofs.«01_k».proof.Proof.Blocks

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S400x10000 .f32) (harg1 : arg1.IsWhole)
  (arg2 : Memref sig .tc .vmem S10000x128 .f32) (harg2 : arg2.IsWhole)
  (arg3 : Memref sig .tc .vmem S10000x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x10000 .f32) (harg6 : arg6.IsWhole)
  (arg7 : Memref sig .tc .vmem S128x128 .f32) (harg7 : arg7.IsWhole)
  (arg8 : Memref sig .tc .vmem S1x10000 .f32) (harg8 : arg8.IsWhole)
  (arg9 : Memref sig .tc .vmem S1x10000 .f32) (harg9 : arg9.IsWhole)
  (arg10 : Memref sig .tc .smem S1 .f32) (harg10 : arg10.IsWhole)
  (arg11 : Memref sig .tc .smem S1 .f32) (harg11 : arg11.IsWhole)
  (arg12 : Memref sig .tc .vmem S2x10000 .f32) (harg12 : arg12.IsWhole)
  (arg13 : Memref sig .tc .vmem S10000x256 .f32) (harg13 : arg13.IsWhole)
  (arg14 : Memref sig .tc .vmem S10000x256 .bf16) (harg14 : arg14.IsWhole)

/-- The eleven input memrefs, each holding its block. -/
def ins (x : Blocks F) : sProp 𝕄 :=
  iprop(owns (c : Thread nD τ) arg1 fullShare x.adj ∗ owns (c : Thread nD τ) arg2 fullShare x.s1
    ∗ owns (c : Thread nD τ) arg3 fullShare x.s2 ∗ owns (c : Thread nD τ) arg4 fullShare x.w
    ∗ owns (c : Thread nD τ) arg5 fullShare x.b ∗ owns (c : Thread nD τ) arg6 fullShare x.msk
    ∗ owns (c : Thread nD τ) arg7 fullShare x.wb ∗ owns (c : Thread nD τ) arg8 fullShare x.sb1
    ∗ owns (c : Thread nD τ) arg9 fullShare x.sb2 ∗ owns (c : Thread nD τ) arg10 fullShare x.a
    ∗ owns (c : Thread nD τ) arg11 fullShare x.bb)

omit [FloatOps F] in
/-- A load of a whole buffer reads its contents. -/
theorem load_all {sp : Space} {S : Shape} {e : EltTy} (v : View sig .tc sp S e) {off : Fin S.rank → ℕ}
    (h : off = fun _ => 0) (inb : ∀ a, off a + S.size a ≤ S.size a) (f : v.ty.Contents (Elt F)) :
    v.readAt (Elt F) (Rect.unit (s := S) off S.size inb).toLoadRect f = v.read (Elt F) f :=
  (View.readAt_eq_ld v f _).trans (View.ld_unit_zero h inb _)

theorem zero1 : (![0] : Fin 1 → ℕ) = fun _ => 0 := funext fun a => by fin_cases a; rfl
theorem zero2 : (![0, 0] : Fin 2 → ℕ) = fun _ => 0 := funext fun a => by fin_cases a <;> rfl

omit [FloatOps F] in
/-- A load of a one-word buffer reads its word. -/
theorem load_word {sp : Space} {e : EltTy} (v : View sig .tc sp S1 e)
    (inb : ∀ a, (![0] : Fin 1 → ℕ) a + S1.size a ≤ S1.size a) (f : v.ty.Contents (Elt F)) (y) :
    v.readAt (Elt F) (Rect.unit (s := S1) ![0] S1.size inb).toLoadRect f y = v.read (Elt F) f (ix1 0) := by
  refine (congrFun (View.readAt_eq_ld v f _) y).trans (congrArg (v.read (Elt F) f) (funext fun a => ?_))
  match a with
  | ⟨0, _⟩ => exact Subsingleton.elim (α := Fin 1) _ _

/-- The point's rows begin at row `400 i`. -/
theorem row_offset (i : grid0.Coords) : k0_off1 i = ![400 * (i 0).val, 0] := by
  have h : (i 0).val < 25 := (i 0).isLt
  unfold k0_off1
  have e : (Scalar.indexCast (Scalar.muli (BitVec.ofNat 32 (i 0).val) 400#32)).toNat = 400 * (i 0).val := by
    simp [Scalar.indexCast, Scalar.muli, IntOp.muli, BitVec.toNat_mul, BitVec.toNat_ofNat]
    omega
  simp only [e]

omit [FloatOps F] in
/-- The hidden scratch after the point's store, over whatever it held. -/
theorem read_store_rows (v : View sig .tc .vmem S10000x256 .bf16) (f : v.ty.Contents (Elt F)) (i : grid0.Coords)
    (inb : ∀ a, k0_off1 i a + S400x256.size a ≤ S10000x256.size a) (r : FVec F S400x256 .bf16) :
    v.read (Elt F) (v.writes (Elt F) f
        [(⟨Rect.unit (s := S10000x256) (k0_off1 i) S400x256.size inb, r⟩ : View.Piece (Elt F) S10000x256 .bf16)])
      = putRows (i 0).val r (v.read (Elt F) f) := by
  funext j
  unfold putRows
  by_cases hj : 400 * (i 0).val ≤ (j 0).val ∧ (j 0).val < 400 * (i 0).val + 400
  · rw [dif_pos hj]
    refine View.read_writes_cons_unit_of_mem v f inb r [] j (ix2 ⟨(j 0).val - 400 * (i 0).val, by omega⟩ (j 1))
      (row_offset i) fun a => ?_
    match a with
    | ⟨0, _⟩ => exact (by omega : (j 0).val = 400 * (i 0).val + ((j 0).val - 400 * (i 0).val))
    | ⟨1, _⟩ => exact (Nat.zero_add _).symm
  · rw [dif_neg hj]
    refine View.read_writes_cons_unit_of_not_mem v f inb r [] j (row_offset i) (0 : Fin 2) ?_
    show (j 0).val < 400 * (i 0).val ∨ 400 * (i 0).val + 400 ≤ (j 0).val
    omega

/-- The feature scratch after the first point's two stores, over whatever it held. -/
theorem read_store_feats (v : View sig .tc .vmem S10000x256 .f32) (f : v.ty.Contents (Elt F))
    (inb0 : ∀ a, (![0, 0] : Fin 2 → ℕ) a + S10000x128.size a ≤ S10000x256.size a)
    (inb1 : ∀ a, (![0, 128] : Fin 2 → ℕ) a + S10000x128.size a ≤ S10000x256.size a) (x : Blocks F) :
    v.read (Elt F) (v.writes (Elt F) f
        [(⟨Rect.unit (s := S10000x256) ![0, 128] S10000x128.size inb1, k0_pay2 x.w x.s2⟩ : View.Piece (Elt F) S10000x256 .f32),
          ⟨Rect.unit (s := S10000x256) ![0, 0] S10000x128.size inb0, k0_pay1 x.w x.s1⟩])
      = feats x := by
  funext j
  have hj0 : (j 0).val < 10000 := (j 0).isLt
  have hj1 : (j 1).val < 256 := (j 1).isLt
  unfold feats
  by_cases h : (j 1).val < 128
  · rw [dif_pos h]
    refine (View.read_writes_cons_unit_of_not_mem v f inb1 _ _ j rfl (1 : Fin 2) (Or.inl h)).trans ?_
    refine View.read_writes_cons_unit_of_mem v f inb0 _ [] j (ix2 (j 0) ⟨(j 1).val, h⟩) rfl fun a => ?_
    match a with
    | ⟨0, _⟩ => exact (Nat.zero_add _).symm
    | ⟨1, _⟩ => exact (Nat.zero_add _).symm
  · rw [dif_neg h]
    refine View.read_writes_cons_unit_of_mem v f inb1 _ _ j (ix2 (j 0) ⟨(j 1).val - 128, by omega⟩) rfl fun a => ?_
    match a with
    | ⟨0, _⟩ => exact (Nat.zero_add _).symm
    | ⟨1, _⟩ => exact (by omega : (j 1).val = 128 + ((j 1).val - 128))

omit [FloatOps F] in
/-- A load of the hidden scratch's left columns reads its left half. -/
theorem load_left (v : View sig .tc .vmem S10000x256 .bf16) (f : v.ty.Contents (Elt F))
    (inb : ∀ a, (![0, 0] : Fin 2 → ℕ) a + S10000x128.size a ≤ S10000x256.size a) :
    v.readAt (Elt F) (Rect.unit (s := S10000x256) ![0, 0] S10000x128.size inb).toLoadRect f
      = leftHalf (v.read (Elt F) f) := by
  funext j
  refine (congrFun (View.readAt_eq_ld v f _) j).trans ?_
  unfold leftHalf
  refine congrArg (v.read (Elt F) f) (funext fun a => Fin.ext ?_)
  match a with
  | ⟨0, _⟩ => exact (by omega : 0 + 1 * (j 0).val = (j 0).val)
  | ⟨1, _⟩ => exact (by omega : 0 + 1 * (j 1).val = (j 1).val)

/-- The output buffer after the last point's two stores, over whatever it held. -/
theorem read_store_scores (v : View sig .tc .vmem S2x10000 .f32) (f : v.ty.Contents (Elt F))
    (inb0 : ∀ a, (![0, 0] : Fin 2 → ℕ) a + S1x10000.size a ≤ S2x10000.size a)
    (inb1 : ∀ a, (![1, 0] : Fin 2 → ℕ) a + S1x10000.size a ≤ S2x10000.size a) (x : Blocks F)
    (s : Vec F S10000x256 .bf16) :
    v.read (Elt F) (v.writes (Elt F) f
        [(⟨Rect.unit (s := S2x10000) ![1, 0] S1x10000.size inb1,
            k0_pay5 (k0_pay6 x.msk (leftHalf s) x.wb s) (x.bb (ix1 0)) x.sb2⟩ : View.Piece (Elt F) S2x10000 .f32),
          ⟨Rect.unit (s := S2x10000) ![0, 0] S1x10000.size inb0,
            k0_pay4 (x.bb (ix1 0)) (k0_pay7 x.msk (leftHalf s) x.wb s x.sb1)⟩])
      = scores x s := by
  funext j
  have hj0 : (j 0).val < 2 := (j 0).isLt
  unfold scores
  by_cases h : (j 0).val = 0
  · rw [if_pos h]
    refine (View.read_writes_cons_unit_of_not_mem v f inb1 _ _ j rfl (0 : Fin 2) (Or.inl (by
      show (j 0).val < 1
      omega))).trans ?_
    refine View.read_writes_cons_unit_of_mem v f inb0 _ [] j (ix2 0 (j 1)) rfl fun a => ?_
    match a with
    | ⟨0, _⟩ => exact h
    | ⟨1, _⟩ => exact (Nat.zero_add _).symm
  · rw [if_neg h]
    refine View.read_writes_cons_unit_of_mem v f inb1 _ _ j (ix2 0 (j 1)) rfl fun a => ?_
    match a with
    | ⟨0, _⟩ => exact (by omega : (j 0).val = 1)
    | ⟨1, _⟩ => exact (Nat.zero_add _).symm

end Cert.KernelIdeal.Walk

end
-- ==== Proof.RunFirst.lean ====
/- The body at the first point: it fills the feature scratch and stores 400 hidden rows. -/
module

public import proofs.«01_k».proof.Proof.Loads

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S400x10000 .f32) (harg1 : arg1.IsWhole)
  (arg2 : Memref sig .tc .vmem S10000x128 .f32) (harg2 : arg2.IsWhole)
  (arg3 : Memref sig .tc .vmem S10000x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x10000 .f32) (harg6 : arg6.IsWhole)
  (arg7 : Memref sig .tc .vmem S128x128 .f32) (harg7 : arg7.IsWhole)
  (arg8 : Memref sig .tc .vmem S1x10000 .f32) (harg8 : arg8.IsWhole)
  (arg9 : Memref sig .tc .vmem S1x10000 .f32) (harg9 : arg9.IsWhole)
  (arg10 : Memref sig .tc .smem S1 .f32) (harg10 : arg10.IsWhole)
  (arg11 : Memref sig .tc .smem S1 .f32) (harg11 : arg11.IsWhole)
  (arg12 : Memref sig .tc .vmem S2x10000 .f32) (harg12 : arg12.IsWhole)
  (arg13 : Memref sig .tc .vmem S10000x256 .f32) (harg13 : arg13.IsWhole)
  (arg14 : Memref sig .tc .vmem S10000x256 .bf16) (harg14 : arg14.IsWhole)

set_option maxHeartbeats 1000000 in
/-- The first point: the feature scratch is filled, whatever it held, and the point's rows of the hidden scratch are
    replaced. -/
theorem run_first (hc0 : isFirst i) (hc1 : ¬isLast i) (x : Blocks F) (d : Vec F S2x10000 .f32)
    (s : Vec F S10000x256 .bf16) (E : Set ℕ) (K : PUnit → sProp 𝕄) :
    iprop(ins c arg1 arg2 arg3 arg4 arg5 arg6 arg7 arg8 arg9 arg10 arg11 x ∗ owns (c : Thread nD τ) arg12 fullShare d
        ∗ (∃ fts, owns (c : Thread nD τ) arg13 fullShare fts) ∗ owns (c : Thread nD τ) arg14 fullShare s
        ∗ (iprop(ins c arg1 arg2 arg3 arg4 arg5 arg6 arg7 arg8 arg9 arg10 arg11 x
              ∗ owns (c : Thread nD τ) arg12 fullShare d ∗ owns (c : Thread nD τ) arg13 fullShare (feats x)
              ∗ owns (c : Thread nD τ) arg14 fullShare (putRows (i 0).val (rows x (feats x)) s)) -∗ K ⟨⟩))
      ⊢ wp frame (wpE (defs₀ (F := F)) Variants.none c none) E (cc0__main_body i arg1 harg1 arg2 harg2 arg3 harg3
          arg4 harg4 arg5 harg5 arg6 harg6 arg7 harg7 arg8 harg8 arg9 harg9 arg10 harg10 arg11 harg11 arg12 harg12
          arg13 harg13 arg14 harg14) K := by
  simp only [cc0__main_body_eq_skeleton]; unfold cc0__main_body_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%e0, %g0, -, G0⟩, ⟨%g1, %hg1, G1⟩, Hk⟩
  sl_exec (disch := first | sl_exact hc0 | sl_exact hc1)
  sl_step
  iapply Hk
  isplitl [H0 H1 H2 H3 H4 H5 H6 H7 H8 H9 H10]
  · isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; isplitr; (· ipureintro; exact hf9); iexact H9
    iexists _; isplitr; (· ipureintro; exact hf10); iexact H10
  isplitl [H11]
  · iexists _; isplitr; swap; (· iexact H11)
    ipureintro
    exact hf11
  isplitl [G0]
  · iexists _; isplitr; swap; (· iexact G0)
    ipureintro
    unfold run_first.sl.G0_2
    rw [load_all _ zero2, load_all _ zero2, load_all _ zero2, hf1, hf2, hf3]
    exact read_store_feats _ _ _ _ x
  iexists _; isplitr; swap; (· iexact G1)
  ipureintro
  subst hg1
  refine (read_store_rows _ _ i _ _).trans (congrArg (fun r => putRows (i 0).val r _) ?_)
  unfold rows
  unfold run_first.sl.v8 run_first.sl.r run_first.sl.G0_2
  unfold View.readCov
  rw [load_all _ zero2, load_all _ zero2, load_all _ zero2, load_all _ zero2, load_all _ zero2, load_all _ zero2, hf0,
    hf1, hf2, hf3, hf4, read_store_feats, load_word, hf9]

end Cert.KernelIdeal.Walk

end
-- ==== Proof.RunMid.lean ====
/- The body at a point that is neither the first nor the last: it reads the feature scratch and stores 400 hidden
   rows. -/
module

public import proofs.«01_k».proof.Proof.Loads

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S400x10000 .f32) (harg1 : arg1.IsWhole)
  (arg2 : Memref sig .tc .vmem S10000x128 .f32) (harg2 : arg2.IsWhole)
  (arg3 : Memref sig .tc .vmem S10000x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x10000 .f32) (harg6 : arg6.IsWhole)
  (arg7 : Memref sig .tc .vmem S128x128 .f32) (harg7 : arg7.IsWhole)
  (arg8 : Memref sig .tc .vmem S1x10000 .f32) (harg8 : arg8.IsWhole)
  (arg9 : Memref sig .tc .vmem S1x10000 .f32) (harg9 : arg9.IsWhole)
  (arg10 : Memref sig .tc .smem S1 .f32) (harg10 : arg10.IsWhole)
  (arg11 : Memref sig .tc .smem S1 .f32) (harg11 : arg11.IsWhole)
  (arg12 : Memref sig .tc .vmem S2x10000 .f32) (harg12 : arg12.IsWhole)
  (arg13 : Memref sig .tc .vmem S10000x256 .f32) (harg13 : arg13.IsWhole)
  (arg14 : Memref sig .tc .vmem S10000x256 .bf16) (harg14 : arg14.IsWhole)

set_option maxHeartbeats 1000000 in
/-- A middle point: the inputs, the output buffer and the feature scratch are left as found; the point's rows of the
    hidden scratch are replaced. -/
theorem run_mid (hc0 : ¬isFirst i) (hc1 : ¬isLast i) (x : Blocks F) (d : Vec F S2x10000 .f32)
    (fts : Vec F S10000x256 .f32) (s : Vec F S10000x256 .bf16) (E : Set ℕ) (K : PUnit → sProp 𝕄) :
    iprop(ins c arg1 arg2 arg3 arg4 arg5 arg6 arg7 arg8 arg9 arg10 arg11 x ∗ owns (c : Thread nD τ) arg12 fullShare d
        ∗ owns (c : Thread nD τ) arg13 fullShare fts ∗ owns (c : Thread nD τ) arg14 fullShare s
        ∗ (iprop(ins c arg1 arg2 arg3 arg4 arg5 arg6 arg7 arg8 arg9 arg10 arg11 x
              ∗ owns (c : Thread nD τ) arg12 fullShare d ∗ owns (c : Thread nD τ) arg13 fullShare fts
              ∗ owns (c : Thread nD τ) arg14 fullShare (putRows (i 0).val (rows x fts) s)) -∗ K ⟨⟩))
      ⊢ wp frame (wpE (defs₀ (F := F)) Variants.none c none) E (cc0__main_body i arg1 harg1 arg2 harg2 arg3 harg3
          arg4 harg4 arg5 harg5 arg6 harg6 arg7 harg7 arg8 harg8 arg9 harg9 arg10 harg10 arg11 harg11 arg12 harg12
          arg13 harg13 arg14 harg14) K := by
  simp only [cc0__main_body_eq_skeleton]; unfold cc0__main_body_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%g0, %hg0, G0⟩, ⟨%g1, %hg1, G1⟩, Hk⟩
  sl_exec (disch := first | sl_exact hc0 | sl_exact hc1)
  sl_step
  iapply Hk
  isplitl [H0 H1 H2 H3 H4 H5 H6 H7 H8 H9 H10]
  · isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; isplitr; (· ipureintro; exact hf9); iexact H9
    iexists _; isplitr; (· ipureintro; exact hf10); iexact H10
  isplitl [H11]
  · iexists _; isplitr; swap; (· iexact H11)
    ipureintro
    exact hf11
  isplitl [G0]
  · iexists _; isplitr; swap; (· iexact G0)
    ipureintro
    exact hg0
  iexists _; isplitr; swap; (· iexact G1)
  ipureintro
  subst hg1
  refine (read_store_rows _ _ i _ _).trans (congrArg (fun r => putRows (i 0).val r _) ?_)
  unfold rows run_mid.sl.r
  rw [load_all _ zero2, load_all _ zero2, load_all _ zero2, hf0, hf4, hg0, ← hf9]
  exact congrArg (k0_pay3 _ _ _) (load_word _ _ _ _)

end Cert.KernelIdeal.Walk

end
-- ==== Proof.RunLast.lean ====
/- The body at the last point: it stores 400 hidden rows and then computes both rows of scores from the whole hidden
   scratch. -/
module

public import proofs.«01_k».proof.Proof.Loads

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S400x10000 .f32) (harg1 : arg1.IsWhole)
  (arg2 : Memref sig .tc .vmem S10000x128 .f32) (harg2 : arg2.IsWhole)
  (arg3 : Memref sig .tc .vmem S10000x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x10000 .f32) (harg6 : arg6.IsWhole)
  (arg7 : Memref sig .tc .vmem S128x128 .f32) (harg7 : arg7.IsWhole)
  (arg8 : Memref sig .tc .vmem S1x10000 .f32) (harg8 : arg8.IsWhole)
  (arg9 : Memref sig .tc .vmem S1x10000 .f32) (harg9 : arg9.IsWhole)
  (arg10 : Memref sig .tc .smem S1 .f32) (harg10 : arg10.IsWhole)
  (arg11 : Memref sig .tc .smem S1 .f32) (harg11 : arg11.IsWhole)
  (arg12 : Memref sig .tc .vmem S2x10000 .f32) (harg12 : arg12.IsWhole)
  (arg13 : Memref sig .tc .vmem S10000x256 .f32) (harg13 : arg13.IsWhole)
  (arg14 : Memref sig .tc .vmem S10000x256 .bf16) (harg14 : arg14.IsWhole)

set_option maxHeartbeats 1000000 in
/-- The last point: the point's rows of the hidden scratch are replaced and the output buffer is filled, whatever it
    held, from the hidden scratch that then is. -/
theorem run_last (hc0 : ¬isFirst i) (hc1 : isLast i) (x : Blocks F) (d : Vec F S2x10000 .f32)
    (fts : Vec F S10000x256 .f32) (s : Vec F S10000x256 .bf16) (E : Set ℕ) (K : PUnit → sProp 𝕄) :
    iprop(ins c arg1 arg2 arg3 arg4 arg5 arg6 arg7 arg8 arg9 arg10 arg11 x ∗ owns (c : Thread nD τ) arg12 fullShare d
        ∗ owns (c : Thread nD τ) arg13 fullShare fts ∗ owns (c : Thread nD τ) arg14 fullShare s
        ∗ (iprop(ins c arg1 arg2 arg3 arg4 arg5 arg6 arg7 arg8 arg9 arg10 arg11 x
              ∗ owns (c : Thread nD τ) arg12 fullShare (scores x (putRows (i 0).val (rows x fts) s))
              ∗ owns (c : Thread nD τ) arg13 fullShare fts
              ∗ owns (c : Thread nD τ) arg14 fullShare (putRows (i 0).val (rows x fts) s)) -∗ K ⟨⟩))
      ⊢ wp frame (wpE (defs₀ (F := F)) Variants.none c none) E (cc0__main_body i arg1 harg1 arg2 harg2 arg3 harg3
          arg4 harg4 arg5 harg5 arg6 harg6 arg7 harg7 arg8 harg8 arg9 harg9 arg10 harg10 arg11 harg11 arg12 harg12
          arg13 harg13 arg14 harg14) K := by
  simp only [cc0__main_body_eq_skeleton]; unfold cc0__main_body_skel
  simp only [k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%g0, %hg0, G0⟩, ⟨%g1, %hg1, G1⟩, Hk⟩
  sl_exec (disch := first | sl_exact hc0 | sl_exact hc1)
  sl_step
  iapply Hk
  have hG : arg14.view.read (Elt F) (arg14.view.writes (Elt F) g1
      (run_last.sl.G1_1 c i arg1 arg5 arg10 arg13 f0 f4 f9 g0)) = putRows (i 0).val (rows x fts) s := by
    subst hg1
    unfold run_last.sl.G1_1
    refine (read_store_rows _ _ i _ _).trans (congrArg (fun r => putRows (i 0).val r _) ?_)
    unfold rows run_last.sl.r
    rw [load_all _ zero2, load_all _ zero2, load_all _ zero2, hf0, hf4, hg0, ← hf9]
    exact congrArg (k0_pay3 _ _ _) (load_word _ _ _ _)
  isplitl [H0 H1 H2 H3 H4 H5 H6 H7 H8 H9 H10]
  · isplitl [H0]; · iexists _; isplitr; (· ipureintro; exact hf0); iexact H0
    isplitl [H1]; · iexists _; isplitr; (· ipureintro; exact hf1); iexact H1
    isplitl [H2]; · iexists _; isplitr; (· ipureintro; exact hf2); iexact H2
    isplitl [H3]; · iexists _; isplitr; (· ipureintro; exact hf3); iexact H3
    isplitl [H4]; · iexists _; isplitr; (· ipureintro; exact hf4); iexact H4
    isplitl [H5]; · iexists _; isplitr; (· ipureintro; exact hf5); iexact H5
    isplitl [H6]; · iexists _; isplitr; (· ipureintro; exact hf6); iexact H6
    isplitl [H7]; · iexists _; isplitr; (· ipureintro; exact hf7); iexact H7
    isplitl [H8]; · iexists _; isplitr; (· ipureintro; exact hf8); iexact H8
    isplitl [H9]; · iexists _; isplitr; (· ipureintro; exact hf9); iexact H9
    iexists _; isplitr; (· ipureintro; exact hf10); iexact H10
  isplitl [H11]
  · iexists _; isplitr; swap; (· iexact H11)
    ipureintro
    unfold run_last.sl.r_2 run_last.sl.r_3 run_last.sl.r_1
    refine Eq.trans ?_ (read_store_scores arg12.view f11 inb_S2x10000_S1x10000_0_0 inb_S2x10000_S1x10000_1_0 x _)
    rw [load_word, hf10, load_left, hG]
    repeat rw [load_all _ zero2]
    rw [hG, hf5, hf6, hf7, hf8]
  isplitl [G0]
  · iexists _; isplitr; swap; (· iexact G0)
    ipureintro
    exact hg0
  iexists _; isplitr; swap; (· iexact G1)
  ipureintro
  exact hG

end Cert.KernelIdeal.Walk

end
-- ==== Proof.Walk.lean ====
/- The region, point by point: what the two scratch buffers hold before each point, the proof data of the pipeline,
   the body's triple at every point, and the run of the whole program. -/
module

public import proofs.«01_k».proof.Proof.RunFirst
public import proofs.«01_k».proof.Proof.RunMid
public import proofs.«01_k».proof.Proof.RunLast
public import Idealize.ShloMosaic.Lib.Claim

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The inputs' blocks at point `t`. -/
def blocks (c : Dev nD) (t : Fin cfg0.N) : Blocks F where
  adj := iblk m c 0 t
  s1 := iblk m c 1 t
  s2 := iblk m c 2 t
  w := iblk m c 3 t
  b := iblk m c 4 t
  msk := iblk m c 5 t
  wb := iblk m c 6 t
  sb1 := iblk m c 7 t
  sb2 := iblk m c 8 t
  a := iblk m c 9 t
  bb := iblk m c 10 t

/-- The grid point numbered `n` (the last one for `n` past the grid). -/
def pt (n : ℕ) : Fin cfg0.N := ⟨min n 24, by have : cfg0.N = 25 := N_0; omega⟩

theorem pt_val (t : Fin cfg0.N) : pt t.val = t := Fin.ext (by
  have : t.val < 25 := Nat.lt_of_lt_of_eq t.isLt N_0
  show min t.val 24 = t.val
  omega)

/-- The feature scratch after the first point. -/
def ftsAt (c : Dev nD) : Vec F S10000x256 .f32 := feats (blocks m c (pt 0))

/-- The hidden matrix: row `r` is row `r mod 400` of what point `r / 400` stores. -/
def hidden (c : Dev nD) : Vec F S10000x256 .bf16 := fun j =>
  rows (blocks m c (pt ((j 0).val / 400))) (ftsAt m c) (ix2 ⟨(j 0).val % 400, Nat.mod_lt _ (by decide)⟩ (j 1))

/-- Contents of the hidden scratch whose first `400 n` rows are the hidden matrix's. -/
def Done (c : Dev nD) (n : ℕ) (s : Vec F S10000x256 .bf16) : Prop :=
  ∀ j : S10000x256.Idx, (j 0).val < 400 * n → s j = hidden m c j

theorem done_zero (c : Dev nD) (s : Vec F S10000x256 .bf16) : Done m c 0 s := fun _ h => absurd h (by omega)

/-- A point's store adds its own 400 rows. -/
theorem done_step (c : Dev nD) (t : Fin cfg0.N) (s : Vec F S10000x256 .bf16) (h : Done m c t.val s) :
    Done m c (t.val + 1) (putRows (grid0.coords t 0).val (rows (blocks m c t) (ftsAt m c)) s) := by
  intro j hj
  rw [coord_val]
  unfold putRows
  by_cases hr : 400 * t.val ≤ (j 0).val ∧ (j 0).val < 400 * t.val + 400
  · rw [dif_pos hr]
    unfold hidden
    have e : (j 0).val / 400 = t.val := by omega
    have e' : (j 0).val - 400 * t.val = (j 0).val % 400 := by omega
    simp only [e, e', pt_val]
  · rw [dif_neg hr]
    exact h j (by omega)

/-- After the last point the scratch holds the hidden matrix. -/
theorem done_all (c : Dev nD) (s : Vec F S10000x256 .bf16) (h : Done m c 25 s) : s = hidden m c :=
  funext fun j => h j (by
    have : (j 0).val < 10000 := (j 0).isLt
    omega)

/-- The two rows of scores the last point stores. -/
def out (c : Dev nD) (t : Fin cfg0.N) : Vec F S2x10000 .f32 := scores (blocks m c t) (hidden m c)

/-! ## The proof data -/

/-- Before point `n`: at the first point what the region is entered with; afterwards the features in one scratch, the
    rows done so far in the other, and the generator at some state. -/
def inv (c : Dev nD) : ℕ → sProp 𝕄
  | 0 => Pipeline.ΦA spec0 c
  | n + 1 => iprop(owns (c : Thread nD τ) ftsM fullShare (ftsAt m c)
      ∗ (∃ s, ⌜Done m c (n + 1) s⌝ ∗ owns (c : Thread nD τ) hidM fullShare s) ∗ (∃ r, prngReg c r))

theorem inv_succ (c : Dev nD) (n : ℕ) : inv m c (n + 1) = iprop(owns (c : Thread nD τ) ftsM fullShare (ftsAt m c)
      ∗ (∃ s, ⌜Done m c (n + 1) s⌝ ∗ owns (c : Thread nD τ) hidM fullShare s) ∗ (∃ r, prngReg c r)) := rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out m c t
  Φ t := inv m c t.val
  q _ := fullShare
  owed _ := 0

theorem A_eq (c : Dev nD) (w : Fin cfg0.W) : (dats m 0 c).A w = V m c (Pipeline.arrRef spec0 w) := by
  dsimp only [dats]

theorem inv_start (c : Dev nD) (t : Fin cfg0.N) : (dats m 0 c).Φ t.castSucc = inv m c t.val := by
  dsimp only [dats]; rfl

theorem inv_end (c : Dev nD) (t : Fin cfg0.N) : (dats m 0 c).Φ t.succ = inv m c (t.val + 1) := by
  dsimp only [dats]; rfl

/-- The output is left alone at every point but the last. -/
theorem idle_out (t : Fin cfg0.N) (h : t.val ≠ 24) : cfg0.idle 11 (grid0.coords t) = true := by
  have hc : ¬k0_cond2 (grid0.coords t) = 1#1 := fun e => h ((isLast_iff t).mp e)
  show (!(k0_cond2 (grid0.coords t) == 1#1)) = true
  simp [hc]

theorem live_out (t : Fin cfg0.N) (h : t.val = 24) : cfg0.idle 11 (grid0.coords t) = false := by
  have hc : k0_cond2 (grid0.coords t) = 1#1 := (isLast_iff t).mpr h
  show (!(k0_cond2 (grid0.coords t) == 1#1)) = false
  simp [hc]

/-- What an input's memref holds before the body, at every point: its block. -/
theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) ∧ (∀ d, (dats m 0 c).before 7 t d = iblk m c 7 t)
    ∧ (∀ d, (dats m 0 c).before 8 t d = iblk m c 8 t) ∧ (∀ d, (dats m 0 c).before 9 t d = iblk m c 9 t)
    ∧ (∀ d, (dats m 0 c).before 10 t d = iblk m c 10 t) :=
  ⟨before0_0_of m (dats m 0 c) (A_eq m c 0) (fun t => by dsimp only [dats]) t,
    before0_1_of m (dats m 0 c) (A_eq m c 1) (fun t => by dsimp only [dats]) t,
    before0_2_of m (dats m 0 c) (A_eq m c 2) (fun t => by dsimp only [dats]) t,
    before0_3_of m (dats m 0 c) (A_eq m c 3) (fun t => by dsimp only [dats]) t,
    before0_4_of m (dats m 0 c) (A_eq m c 4) (fun t => by dsimp only [dats]) t,
    before0_5_of m (dats m 0 c) (A_eq m c 5) (fun t => by dsimp only [dats]) t,
    before0_6_of m (dats m 0 c) (A_eq m c 6) (fun t => by dsimp only [dats]) t,
    before0_7_of m (dats m 0 c) (A_eq m c 7) (fun t => by dsimp only [dats]) t,
    before0_8_of m (dats m 0 c) (A_eq m c 8) (fun t => by dsimp only [dats]) t,
    before0_9_of m (dats m 0 c) (A_eq m c 9) (fun t => by dsimp only [dats]) t,
    before0_10_of m (dats m 0 c) (A_eq m c 10) (fun t => by dsimp only [dats]) t⟩

/-- Window `w`'s memref at point `t`. -/
abbrev mem (t : Fin cfg0.N) (w : Fin cfg0.W) := (cfg0.win w).stage (cfg0.slots t w)

/-- The inputs at point `t`, holding their blocks. -/
def insAt (c : Dev nD) (t : Fin cfg0.N) : sProp 𝕄 :=
  ins c (win0_0.stage (cfg0.slots t 0)) (win0_1.stage (cfg0.slots t 1)) (win0_2.stage (cfg0.slots t 2))
    (win0_3.stage (cfg0.slots t 3)) (win0_4.stage (cfg0.slots t 4)) (win0_5.stage (cfg0.slots t 5))
    (win0_6.stage (cfg0.slots t 6)) (win0_7.stage (cfg0.slots t 7)) (win0_8.stage (cfg0.slots t 8))
    (win0_9.stage (cfg0.slots t 9)) (win0_10.stage (cfg0.slots t 10)) (blocks m c t)

/-- The body at any point, from the inputs at their blocks and the output at anything: the invariant moves on, and the
    output is left as found at every point but the last, where it holds the scores. -/
theorem body_at (c : Dev nD) (t : Fin cfg0.N) (d : Vec F S2x10000 .f32) (K : PUnit → sProp 𝕄) :
    iprop(inv m c t.val ∗ insAt m c t ∗ owns (c : Thread nD τ) (win0_11.stage (cfg0.slots t 11)) fullShare d
        ∗ (iprop(inv m c (t.val + 1) ∗ insAt m c t
            ∗ owns (c : Thread nD τ) (win0_11.stage (cfg0.slots t 11)) fullShare (if t.val = 24 then out m c t else d)) -∗ K ⟨⟩))
      ⊢ wp frame (wpE (defs₀ (F := F)) Variants.none c none) Set.univ (bodyAt0 t) K := by
  have hN : t.val < 25 := Nat.lt_of_lt_of_eq t.isLt N_0
  unfold bodyAt0 insAt
  by_cases h0 : t.val = 0
  · have hd := done_step m c t
    rw [if_neg (by omega), h0]
    have ht : t = pt 0 := Fin.ext h0
    rw [show inv m c 0 = _ from entry_eq c, inv_succ m c 0]
    iintro ⟨⟨⟨HF, ⟨%s, HS⟩⟩, Hg⟩, HI, HO, HK⟩
    iapply (run_first c (grid0.coords t) _ _ _ _ _ _ _ _ _ _ _ _ _ _ _ _ _ _ _ _ _ _ _ _ _ _ _ _
      ((isFirst_iff t).mpr h0) (fun h => absurd ((isLast_iff t).mp h) (by omega)) (blocks m c t) d s Set.univ _)
    isplitl [HI]; · iexact HI
    isplitl [HO]; · iexact HO
    isplitl [HF]; · iexact HF
    isplitl [HS]; · iexact HS
    iintro ⟨HI, HO, HF, HS⟩
    iapply HK
    isplitl [HF HS Hg]
    · have e : feats (blocks m c t) = ftsAt m c := by rw [ht]; rfl
      rw [e]
      isplitl [HF]; · iexact HF
      isplitl [HS]
      · iexists _
        isplitr; swap; · iexact HS
        ipureintro
        have := hd s (by rw [h0]; exact done_zero m c s)
        rwa [h0] at this
      iexact Hg
    isplitl [HI]; · iexact HI
    iexact HO
  · obtain ⟨n, hn⟩ := Nat.exists_eq_succ_of_ne_zero h0
    have hd := done_step m c t
    rw [inv_succ m c t.val, show inv m c t.val = inv m c (n + 1) from congrArg (inv m c) hn, inv_succ m c n]
    iintro ⟨⟨HF, ⟨%s, %hs, HS⟩, Hg⟩, HI, HO, HK⟩
    have hs' : Done m c (t.val + 1) _ := hd s (by rw [hn]; exact hs)
    by_cases h1 : t.val = 24
    · rw [if_pos h1]
      iapply (run_last c (grid0.coords t) _ _ _ _ _ _ _ _ _ _ _ _ _ _ _ _ _ _ _ _ _ _ _ _ _ _ _ _
        (fun h => h0 ((isFirst_iff t).mp h)) ((isLast_iff t).mpr h1) (blocks m c t) d (ftsAt m c) s Set.univ _)
      isplitl [HI]; · iexact HI
      isplitl [HO]; · iexact HO
      isplitl [HF]; · iexact HF
      isplitl [HS]; · iexact HS
      iintro ⟨HI, HO, HF, HS⟩
      iapply HK
      isplitl [HF HS Hg]
      · isplitl [HF]; · iexact HF
        isplitl [HS]
        · iexists _
          isplitr; swap; · iexact HS
          ipureintro; exact hs'
        iexact Hg
      isplitl [HI]; · iexact HI
      have e := done_all m c _ (by rw [h1] at hs'; exact hs')
      unfold out
      rw [← e]
      iexact HO
    · rw [if_neg h1]
      iapply (run_mid c (grid0.coords t) _ _ _ _ _ _ _ _ _ _ _ _ _ _ _ _ _ _ _ _ _ _ _ _ _ _ _ _
        (fun h => h0 ((isFirst_iff t).mp h)) (fun h => h1 ((isLast_iff t).mp h)) (blocks m c t) d (ftsAt m c) s Set.univ _)
      isplitl [HI]; · iexact HI
      isplitl [HO]; · iexact HO
      isplitl [HF]; · iexact HF
      isplitl [HS]; · iexact HS
      iintro ⟨HI, HO, HF, HS⟩
      iapply HK
      isplitl [HF HS Hg]
      · isplitl [HF]; · iexact HF
        isplitl [HS]
        · iexists _
          isplitr; swap; · iexact HS
          ipureintro; exact hs'
        iexact Hg
      isplitl [HI]; · iexact HI
      iexact HO

end Cert.KernelIdeal.Walk

end
-- ==== Proof.Region.lean ====
/- The body obligation at every point of the grid, and the run of the whole program. -/
module

public import proofs.«01_k».proof.Proof.Walk

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s memref at point `t`, as the body finds it. -/
def found (c : Dev nD) (t : Fin cfg0.N) (w : Fin cfg0.W) : sProp 𝕄 :=
  iprop(∃ d, owns (c : Thread nD τ) ((cfg0.win w).stage (cfg0.slots t w)) fullShare ((dats m 0 c).before w t d))

/-- The inputs' memrefs, found at anything the schedule may have put there, are at their blocks. -/
theorem found_ins (c : Dev nD) (t : Fin cfg0.N) :
    iprop(found m c t 0 ∗ found m c t 1 ∗ found m c t 2 ∗ found m c t 3 ∗ found m c t 4 ∗ found m c t 5 ∗ found m c t 6
      ∗ found m c t 7 ∗ found m c t 8 ∗ found m c t 9 ∗ found m c t 10) ⊢ insAt m c t := by
  obtain ⟨e0, e1, e2, e3, e4, e5, e6, e7, e8, e9, e10⟩ := before_in m c t
  unfold found insAt ins
  simp only [e0, e1, e2, e3, e4, e5, e6, e7, e8, e9, e10]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- And the inputs at their blocks are what the body owes back of them. -/
theorem ins_left (c : Dev nD) (t : Fin cfg0.N) :
    insAt m c t ⊢ iprop((dats m 0 c).leavesExact 0 t ∗ (dats m 0 c).leavesExact 1 t ∗ (dats m 0 c).leavesExact 2 t
      ∗ (dats m 0 c).leavesExact 3 t ∗ (dats m 0 c).leavesExact 4 t ∗ (dats m 0 c).leavesExact 5 t
      ∗ (dats m 0 c).leavesExact 6 t ∗ (dats m 0 c).leavesExact 7 t ∗ (dats m 0 c).leavesExact 8 t
      ∗ (dats m 0 c).leavesExact 9 t ∗ (dats m 0 c).leavesExact 10 t) := by
  unfold insAt ins
  exact .rfl

/-- The output at what the body leaves there is what the body owes back of it. -/
theorem out_left (c : Dev nD) (t : Fin cfg0.N) (d) :
    owns (c : Thread nD τ) (win0_11.stage (cfg0.slots t 11)) fullShare (if t.val = 24 then out m c t else (dats m 0 c).before 11 t d)
      ⊢ (dats m 0 c).leavesExact 11 t := by
  by_cases h : t.val = 24
  · rw [if_pos h]
    unfold Dat.leavesExact
    rw [live_out t h]
    exact .rfl
  · rw [if_neg h, Dat.leavesExact_idle (dats m 0 c) 11 t (idle_out t h) ?_]
    · iintro H
      iexists d
      iexact H
    · have hN : t.val < 25 := Nat.lt_of_lt_of_eq t.isLt N_0
      rw [Bool.eq_false_iff]
      intro hf
      have := (flush0_11 t).mp hf
      omega

/-- The body's triple at every point. -/
theorem sound (c : Dev nD) (t : Fin cfg0.N) :
    iprop((dats m 0 c).Φ t.castSucc ∗ (dats m 0 c).owesAt () t.castSucc ∗ found m c t 0 ∗ found m c t 1 ∗ found m c t 2
        ∗ found m c t 3 ∗ found m c t 4 ∗ found m c t 5 ∗ found m c t 6 ∗ found m c t 7 ∗ found m c t 8 ∗ found m c t 9
        ∗ found m c t 10 ∗ found m c t 11)
      ⊢ wp frame (wpE (defs₀ (F := F)) Variants.none c none) Set.univ (bodyAt0 t) (fun _ =>
        iprop((dats m 0 c).Φ t.succ ∗ (dats m 0 c).owesAt () t.succ ∗ (dats m 0 c).leavesExact 0 t
          ∗ (dats m 0 c).leavesExact 1 t ∗ (dats m 0 c).leavesExact 2 t ∗ (dats m 0 c).leavesExact 3 t
          ∗ (dats m 0 c).leavesExact 4 t ∗ (dats m 0 c).leavesExact 5 t ∗ (dats m 0 c).leavesExact 6 t
          ∗ (dats m 0 c).leavesExact 7 t ∗ (dats m 0 c).leavesExact 8 t ∗ (dats m 0 c).leavesExact 9 t
          ∗ (dats m 0 c).leavesExact 10 t ∗ (dats m 0 c).leavesExact 11 t)) := by
  rw [inv_start, inv_end, show (dats m 0 c).owesAt () t.succ = (dats m 0 c).owesAt () t.castSucc from rfl]
  iintro ⟨HΦ, Ho, H0, H1, H2, H3, H4, H5, H6, H7, H8, H9, H10, H11⟩
  unfold found at *
  icases H11 with ⟨%d, H11⟩
  iapply (body_at m c t ((dats m 0 c).before 11 t d) _)
  isplitl [HΦ]; · iexact HΦ
  isplitl [H0 H1 H2 H3 H4 H5 H6 H7 H8 H9 H10]
  · iapply (found_ins m c t)
    unfold found
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  iintro ⟨HΦ, HI, HO⟩
  isplitl [HΦ]; · iexact HΦ
  isplitl [Ho]; · iexact Ho
  ihave HL := (ins_left m c t) $$ HI
  icases HL with ⟨H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (out_left m c t d)
  iexact HO

/-- The body table's row at point `t` is the body at that point's memrefs. -/
theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enters (c : Dev nD) : Pipeline.ΦA spec0 c ⊢ (dats m 0 c).Φ 0 := .rfl

/-- The region gives back its buffers, whatever they hold. -/
theorem leaves (c : Dev nD) : (dats m 0 c).Φ (Fin.last cfg0.N) ⊢ Pipeline.ΦA spec0 c := by
  rw [show (dats m 0 c).Φ (Fin.last cfg0.N) = inv m c (24 + 1) from congrArg (inv m c) N_0, inv_succ, entry_eq]
  iintro ⟨HF, ⟨%s, -, HS⟩, Hg⟩
  isplitl [HF HS]
  · isplitl [HF]
    · iexists _; iexact HF
    iexists _; iexact HS
  iexact Hg

-- The library's statement and this one name the same configuration through plain definitions.
set_option backward.isDefEq.respectTransparency.types false in
set_option maxHeartbeats 800000 in
/-- The whole program terminates with every array at what the proof data say, and every counter at zero. -/
theorem run_whole : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

/-- Every argument array ends as it was, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_whole m ρ)))
  ((θ_run defs _ _).mono (fun _ h => h.2) (run_whole m ρ))

end Cert.KernelIdeal.Walk

end
-- ==== Proof.Final.lean ====
/- What the program's result holds at the end, and the inputs' blocks as the arguments they are parts of. -/
module

public import proofs.«01_k».proof.Proof.Region
public import Idealize.ShloMosaic.Lib.Pipeline.ValueKit
public import Idealize.ShloMosaic.Lib.StableHlo.Run

@[expose] public section

set_option maxRecDepth 16384

noncomputable section

namespace Cert.KernelIdeal.Walk

open Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The output array ends holding the two rows the last point stores. -/
theorem arr_out (c : Dev nD) : (dats m 0 c).arrAt 11 cfg0.N = out m c (pt 24) := by
  funext i
  refine (Dat.arrAt_emb_eq_after_last (dats m 0 c) 11 (pt 24) (by decide +kernel) i).trans ?_
  dsimp only [dats]
  rfl

/-- The result is those two rows laid end to end. -/
theorem result_eq (c : Dev nD) : Pipeline.afterTail₀ cfgs (dats m) 0 (V0 m) [hostOps1] c main_v6
    = shapeCast S1x20000 (out m c (pt 24)) shapeCasts_S2x10000_S1x20000 := by
  unfold Pipeline.afterTail₀
  simp only [hostOps1, List.flatten_cons, List.flatten_nil, List.append_nil]
  after_results
  exact congrArg (fun x : Vec F S2x10000 .f32 => shapeCast S1x20000 x shapeCasts_S2x10000_S1x20000)
    ((Pipeline.withArrays_arr spec0 launch0.win.arr_inj c (V0 m c) _ 11).trans (arr_out m c))

/-- The whole program's run, at its result. -/
theorem run_result : θ_run defs (onTc (τ := τ) (main (F := F))) ⟨m, fun _ => 0, ρ⟩ (fun r => ∀ c : Dev nD,
    r.2.mem ((c.tc : Thread nD τ).loc main_v6) = shapeCast S1x20000 (out m c (pt 24)) shapeCasts_S2x10000_S1x20000) :=
  (θ_run defs _ _).mono (fun r h c => ((h.1 c).2 main_v6 (by decide)).trans (result_eq m c)) (run_whole m ρ)

end Cert.KernelIdeal.Walk

end
-- ==== Proof.Spec.lean ====
/- The problem's mathematics over the extended reals, as sums: one graph convolution, a weighted mean of its rows
   through a logistic, and a bilinear form of each row with that mean. -/
module

public import Idealize.ShloMosaic.PureOps.Ideal
public import Idealize.ShloMosaic.Lib.Pointwise.Index

@[expose] public section

noncomputable section

namespace Cert.Spec

open Idealize.ShloMosaic

/-- The activation: the identity from zero on, the slope `a` below. -/
def act (a x : EReal) : EReal := if 0 ≤ x then x else a * x

/-- A node's features: its row of `s` against row `d` of the weight. -/
def feat (s : Fin 10000 → Fin 128 → EReal) (w : Fin 128 → Fin 128 → EReal) (q : Fin 10000) (d : Fin 128) : EReal :=
  ∑ k, s q k * w d k

/-- The readout: the mean of the hidden rows under the mask's weights, through a logistic. -/
def mean (msk : Fin 10000 → EReal) (h : Fin 10000 → Fin 128 → EReal) (k : Fin 128) : EReal :=
  Ideal.logistic (Ideal.div (∑ r, h r k * msk r) (∑ r, msk r))

/-- The readout with the weights' sum inverted once. -/
def meanInv (msk : Fin 10000 → EReal) (h : Fin 10000 → Fin 128 → EReal) (k : Fin 128) : EReal :=
  Ideal.logistic ((∑ r, msk r * h r k) * Ideal.div 1 (∑ r, msk r))

/-- The bilinear form of a row with the readout, the row contracted first. -/
def form (h c : Fin 128 → EReal) (wb : Fin 128 → Fin 128 → EReal) : EReal := ∑ k, c k * ∑ d, wb d k * h d

/-- The bilinear form, the readout contracted first. -/
def formRev (h c : Fin 128 → EReal) (wb : Fin 128 → Fin 128 → EReal) : EReal := ∑ d, (∑ k, c k * wb d k) * h d

/-- The arguments, by coordinates. -/
structure Net where
  /-- the two feature matrices -/
  s1 : Fin 10000 → Fin 128 → EReal
  s2 : Fin 10000 → Fin 128 → EReal
  /-- the adjacency matrix -/
  adj : Fin 10000 → Fin 10000 → EReal
  /-- the readout's weights and the two score biases -/
  msk : Fin 10000 → EReal
  sb1 : Fin 10000 → EReal
  sb2 : Fin 10000 → EReal
  /-- the convolution's weight, bias and slope -/
  w : Fin 128 → Fin 128 → EReal
  b : Fin 128 → EReal
  a : EReal
  /-- the bilinear weight and bias -/
  wb : Fin 128 → Fin 128 → EReal
  bb : EReal

namespace Net

/-- The argument arrays, read by coordinates. -/
def ofArrays (s1 s2 : FVec Ideal ⟨3, ![1, 10000, 128]⟩ .f32) (adj : FVec Ideal ⟨3, ![1, 10000, 10000]⟩ .f32)
    (msk sb1 sb2 : FVec Ideal ⟨2, ![1, 10000]⟩ .f32) (w : FVec Ideal ⟨2, ![128, 128]⟩ .f32) (b : FVec Ideal ⟨1, ![128]⟩ .f32)
    (a : FVec Ideal ⟨1, ![1]⟩ .f32) (wb : FVec Ideal ⟨3, ![1, 128, 128]⟩ .f32) (bb : FVec Ideal ⟨1, ![1]⟩ .f32) : Net where
  s1 q k := s1 (ix3 0 q k)
  s2 q k := s2 (ix3 0 q k)
  adj r q := adj (ix3 0 r q)
  msk r := msk (ix2 0 r)
  sb1 r := sb1 (ix2 0 r)
  sb2 r := sb2 (ix2 0 r)
  w d k := w (ix2 d k)
  b d := b (ix1 d)
  a := a (ix1 0)
  wb d k := wb (ix3 0 d k)
  bb := bb (ix1 0)

variable (x : Net)

/-- A node's hidden row over the features `s`: its neighbours' features, the bias, the activation. -/
def hid (s : Fin 10000 → Fin 128 → EReal) (r : Fin 10000) (d : Fin 128) : EReal :=
  act x.a (∑ q, x.adj r q * feat s x.w q d + x.b d)

/-- The readout of the first graph. -/
def readout : Fin 128 → EReal := mean x.msk (x.hid x.s1)

/-- A node's score over the features `s`, before its own bias. -/
def score (s : Fin 10000 → Fin 128 → EReal) (r : Fin 10000) : EReal := form (x.hid s r) x.readout x.wb

/-- The same score, with the weights' sum inverted once and the readout contracted first. -/
def scoreRev (s : Fin 10000 → Fin 128 → EReal) (r : Fin 10000) : EReal :=
  formRev (x.hid s r) (meanInv x.msk (x.hid x.s1)) x.wb

end Net

end Cert.Spec

end
-- ==== Proof.Payloads.lean ====
/- The values the kernel's body stores, read element by element over the extended reals. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Payloads

open Cert.KernelIdeal.Gen Cert.Spec
open Idealize.ShloMosaic

theorem pay1_at (w : Vec Ideal S128x128 .f32) (s : Vec Ideal S10000x128 .f32) (q : Fin 10000) (d : Fin 128) :
    k0_pay1 w s (ix2 q d) = feat (fun q k => s (ix2 q k)) (fun d k => w (ix2 d k)) q d := by
  unfold feat
  pointwise [k0_pay1]

theorem pay2_at (w : Vec Ideal S128x128 .f32) (s : Vec Ideal S10000x128 .f32) (q : Fin 10000) (d : Fin 128) :
    k0_pay2 w s (ix2 q d) = feat (fun q k => s (ix2 q k)) (fun d k => w (ix2 d k)) q d := by
  unfold feat
  pointwise [k0_pay2]

/-- A hidden row's left half: the bias's column is the row's. -/
theorem pay3_left (b : Vec Ideal S1x128 .f32) (adj : Vec Ideal S400x10000 .f32) (fts : Vec Ideal S10000x256 .f32) (a : Elt Ideal .f32)
    (r : Fin 400) (d : Fin 128) (h : d.val < 256) :
    k0_pay3 b adj fts a (ix2 r ⟨d.val, h⟩) = act a (∑ q : Fin 10000, adj (ix2 r q) * fts (ix2 q ⟨d.val, h⟩) + b (ix2 0 d)) := by
  unfold act
  pointwise [k0_pay3]

/-- Its right half: the bias once more, from its first column. -/
theorem pay3_right (b : Vec Ideal S1x128 .f32) (adj : Vec Ideal S400x10000 .f32) (fts : Vec Ideal S10000x256 .f32) (a : Elt Ideal .f32)
    (r : Fin 400) (d : Fin 128) (h : 128 + d.val < 256) :
    k0_pay3 b adj fts a (ix2 r ⟨128 + d.val, h⟩)
      = act a (∑ q : Fin 10000, adj (ix2 r q) * fts (ix2 q ⟨128 + d.val, h⟩) + b (ix2 0 d)) := by
  unfold act
  pointwise [k0_pay3]

/-- The readout's row: the bilinear weight against the logistic of the mean. -/
def readout (msk : Vec Ideal S1x10000 .f32) (hl : Vec Ideal S10000x128 .bf16) : Fin 128 → EReal :=
  meanInv (fun r => msk (ix2 0 r)) (fun r k => hl (ix2 r k))

/-- The scores' first row is the form of the left half's rows: the packed vector's right half is zero there. -/
theorem pay6_row0 (msk : Vec Ideal S1x10000 .f32) (hl : Vec Ideal S10000x128 .bf16) (wb : Vec Ideal S128x128 .f32)
    (hs : Vec Ideal S10000x256 .bf16) (n : Fin 10000) :
    k0_pay6 msk hl wb hs (ix2 0 n)
      = formRev (fun d => hs (ix2 n ⟨d.val, by omega⟩)) (readout msk hl) (fun d k => wb (ix2 d k)) := by
  have hz : IntOp.cmpi CmpIPredicate.eq (0#32) (1#32) = 0#1 := by decide
  have hs0 : ∀ x : EReal, Scalar.select (0#1) x (0 : EReal) = 0 := fun _ => rfl
  unfold formRev readout meanInv
  pointwise [k0_pay6]
  simp only [hz, hs0, Finset.sum_const_zero, add_zero, Finset.univ_unique, Finset.sum_singleton]

/-- The second row is the form of the right half's rows. -/
theorem pay6_row1 (msk : Vec Ideal S1x10000 .f32) (hl : Vec Ideal S10000x128 .bf16) (wb : Vec Ideal S128x128 .f32)
    (hs : Vec Ideal S10000x256 .bf16) (n : Fin 10000) :
    k0_pay6 msk hl wb hs (ix2 1 n)
      = formRev (fun d => hs (ix2 n ⟨128 + d.val, by omega⟩)) (readout msk hl) (fun d k => wb (ix2 d k)) := by
  have hz : IntOp.cmpi CmpIPredicate.eq (1#32) (0#32) = 0#1 := by decide
  have hs0 : ∀ x : EReal, Scalar.select (0#1) x (0 : EReal) = 0 := fun _ => rfl
  unfold formRev readout meanInv
  pointwise [k0_pay6]
  simp only [hz, hs0, Finset.sum_const_zero, zero_add, Finset.univ_unique, Finset.sum_singleton]

/-- The first stored row: the form, the first score bias, the bilinear bias. -/
theorem row0_at (msk : Vec Ideal S1x10000 .f32) (hl : Vec Ideal S10000x128 .bf16) (wb : Vec Ideal S128x128 .f32)
    (hs : Vec Ideal S10000x256 .bf16) (sb : Vec Ideal S1x10000 .f32) (bb : Elt Ideal .f32) (n : Fin 10000) :
    k0_pay4 bb (k0_pay7 msk hl wb hs sb) (ix2 0 n)
      = formRev (fun d => hs (ix2 n ⟨d.val, by omega⟩)) (readout msk hl) (fun d k => wb (ix2 d k)) + sb (ix2 0 n) + bb := by
  rw [← pay6_row0]
  pointwise [k0_pay4, k0_pay7]

/-- The second stored row. -/
theorem row1_at (msk : Vec Ideal S1x10000 .f32) (hl : Vec Ideal S10000x128 .bf16) (wb : Vec Ideal S128x128 .f32)
    (hs : Vec Ideal S10000x256 .bf16) (sb : Vec Ideal S1x10000 .f32) (bb : Elt Ideal .f32) (n : Fin 10000) :
    k0_pay5 (k0_pay6 msk hl wb hs) bb sb (ix2 0 n)
      = formRev (fun d => hs (ix2 n ⟨128 + d.val, by omega⟩)) (readout msk hl) (fun d k => wb (ix2 d k)) + sb (ix2 0 n) + bb := by
  rw [← pay6_row1]
  pointwise [k0_pay5]

end Cert.KernelIdeal.Payloads

end
-- ==== Proof.Entries.lean ====
/- The kernel's blocks as entries of the arguments. -/
module

public import proofs.«01_k».proof.Proof.Final
public import proofs.«01_k».proof.Proof.Payloads
public import Idealize.ShloMosaic.Lib.Pipeline.ValueKit

@[expose] public section

set_option maxRecDepth 16384

noncomputable section

namespace Cert.KernelIdeal.Entries

open Cert.KernelIdeal.Gen Cert.KernelIdeal.Walk Cert.Spec
open Idealize.ShloMosaic Idealize.ShloMosaic.TcCoe

variable (m : (ℓ : Loc nD τ sig) → Buf (Elt Ideal) ℓ) (c : Dev nD)

/-! ## Where the blocks lie -/

/-- The adjacency window walks down the rows. -/
theorem rows_index : ∀ t : Fin cfg0.N, win0_0.index t 0 = t.val ∧ win0_0.index t 1 = 0 := by decide +kernel

/-- Every other window stays at the origin of its array. -/
theorem still_index : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ win0_9.index t 0 = 0 ∧ win0_10.index t 0 = 0 := by decide +kernel

/-! ## The arrays reshaped before the launch -/

theorem V_adj : V m c main_v0 = shapeCast S10000x10000 (m (c.tc.loc main_arg2)) shapeCasts_S1x10000x10000_S10000x10000 := by
  unfold V V0
  simp only [hostOps0, List.flatten_cons, List.flatten_nil, List.append_nil]
  after_results
  rfl

theorem V_s1 : V m c main_v1 = shapeCast S10000x128 (m (c.tc.loc main_arg0)) shapeCasts_S1x10000x128_S10000x128 := by
  unfold V V0
  simp only [hostOps0, List.flatten_cons, List.flatten_nil, List.append_nil]
  after_results
  rfl

theorem V_s2 : V m c main_v2 = shapeCast S10000x128 (m (c.tc.loc main_arg1)) shapeCasts_S1x10000x128_S10000x128 := by
  unfold V V0
  simp only [hostOps0, List.flatten_cons, List.flatten_nil, List.append_nil]
  after_results
  rfl

theorem V_b : V m c main_v3 = shapeCast S1x128 (m (c.tc.loc main_arg8)) shapeCasts_S128_S1x128 := by
  unfold V V0
  simp only [hostOps0, List.flatten_cons, List.flatten_nil, List.append_nil]
  after_results
  rfl

theorem V_wb : V m c main_v4 = shapeCast S128x128 (m (c.tc.loc main_arg10)) shapeCasts_S1x128x128_S128x128 := by
  unfold V V0
  simp only [hostOps0, List.flatten_cons, List.flatten_nil, List.append_nil]
  after_results
  rfl

/-! ## Those reshapes at an index -/

theorem cast_square (x : Vec Ideal S1x10000x10000 .f32) (r q : Fin 10000) :
    shapeCast S10000x10000 x shapeCasts_S1x10000x10000_S10000x10000 (ix2 r q) = x (ix3 0 r q) := by pointwise

theorem cast_feats (x : Vec Ideal S1x10000x128 .f32) (q : Fin 10000) (k : Fin 128) :
    shapeCast S10000x128 x shapeCasts_S1x10000x128_S10000x128 (ix2 q k) = x (ix3 0 q k) := by pointwise

theorem cast_bias (x : Vec Ideal S128 .f32) (d : Fin 128) :
    shapeCast S1x128 x shapeCasts_S128_S1x128 (ix2 0 d) = x (ix1 d) := by pointwise

theorem cast_weight (x : Vec Ideal S1x128x128 .f32) (d k : Fin 128) :
    shapeCast S128x128 x shapeCasts_S1x128x128_S128x128 (ix2 d k) = x (ix3 0 d k) := by pointwise

/-! ## The blocks' entries -/

variable (t : Fin cfg0.N)

theorem adj_at (r : Fin 400) (q : Fin 10000) (h : t.val * 400 + r.val < 10000) :
    (blocks m c t).adj (ix2 r q) = m (c.tc.loc main_arg2) (ix3 0 ⟨t.val * 400 + r.val, h⟩ q) := by
  have e : (blocks m c t).adj (ix2 r q) = V m c main_v0 (ix2 ⟨t.val * 400 + r.val, h⟩ q) := by
    show iblk m c 0 t (ix2 r q) = _
    blk_ext [iblk, rows_index t]
  exact (e.trans (congrFun (V_adj m c) _)).trans (cast_square _ _ _)

theorem s1_at (q : Fin 10000) (k : Fin 128) : (blocks m c t).s1 (ix2 q k) = m (c.tc.loc main_arg0) (ix3 0 q k) := by
  have e : (blocks m c t).s1 (ix2 q k) = V m c main_v1 (ix2 q k) := by
    show iblk m c 1 t (ix2 q k) = _
    blk_ext [iblk, still_index t]
  exact (e.trans (congrFun (V_s1 m c) _)).trans (cast_feats _ _ _)

theorem s2_at (q : Fin 10000) (k : Fin 128) : (blocks m c t).s2 (ix2 q k) = m (c.tc.loc main_arg1) (ix3 0 q k) := by
  have e : (blocks m c t).s2 (ix2 q k) = V m c main_v2 (ix2 q k) := by
    show iblk m c 2 t (ix2 q k) = _
    blk_ext [iblk, still_index t]
  exact (e.trans (congrFun (V_s2 m c) _)).trans (cast_feats _ _ _)

theorem w_at (d k : Fin 128) : (blocks m c t).w (ix2 d k) = m (c.tc.loc main_arg7) (ix2 d k) := by
  show iblk m c 3 t (ix2 d k) = _
  blk_ext [iblk, V, still_index t]

theorem b_at (d : Fin 128) : (blocks m c t).b (ix2 0 d) = m (c.tc.loc main_arg8) (ix1 d) := by
  have e : (blocks m c t).b (ix2 0 d) = V m c main_v3 (ix2 0 d) := by
    show iblk m c 4 t (ix2 0 d) = _
    blk_ext [iblk, still_index t]
  exact (e.trans (congrFun (V_b m c) _)).trans (cast_bias _ _)

theorem msk_at (q : Fin 10000) : (blocks m c t).msk (ix2 0 q) = m (c.tc.loc main_arg4) (ix2 0 q) := by
  show iblk m c 5 t (ix2 0 q) = _
  blk_ext [iblk, V, still_index t]

theorem wb_at (d k : Fin 128) : (blocks m c t).wb (ix2 d k) = m (c.tc.loc main_arg10) (ix3 0 d k) := by
  have e : (blocks m c t).wb (ix2 d k) = V m c main_v4 (ix2 d k) := by
    show iblk m c 6 t (ix2 d k) = _
    blk_ext [iblk, still_index t]
  exact (e.trans (congrFun (V_wb m c) _)).trans (cast_weight _ _ _)

theorem sb1_at (q : Fin 10000) : (blocks m c t).sb1 (ix2 0 q) = m (c.tc.loc main_arg5) (ix2 0 q) := by
  show iblk m c 7 t (ix2 0 q) = _
  blk_ext [iblk, V, still_index t]

theorem sb2_at (q : Fin 10000) : (blocks m c t).sb2 (ix2 0 q) = m (c.tc.loc main_arg6) (ix2 0 q) := by
  show iblk m c 8 t (ix2 0 q) = _
  blk_ext [iblk, V, still_index t]

theorem a_at : (blocks m c t).a (ix1 0) = m (c.tc.loc main_arg9) (ix1 0) := by
  show iblk m c 9 t (ix1 0) = _
  blk_ext [iblk, V, still_index t]

theorem bb_at : (blocks m c t).bb (ix1 0) = m (c.tc.loc main_arg11) (ix1 0) := by
  show iblk m c 10 t (ix1 0) = _
  blk_ext [iblk, V, still_index t]

/-! ## The hidden matrix -/

/-- The arguments in memory, by coordinates. -/
def net : Net := Net.ofArrays (m (c.tc.loc main_arg0)) (m (c.tc.loc main_arg1)) (m (c.tc.loc main_arg2))
  (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11))

theorem fts_left (q : Fin 10000) (d : Fin 128) (h : d.val < 256) :
    ftsAt m c (ix2 q ⟨d.val, h⟩) = feat (net m c).s1 (net m c).w q d := by
  unfold ftsAt feats
  rw [dif_pos (show ((ix2 q (⟨d.val, h⟩ : Fin 256) : S10000x256.Idx) 1).val < 128 from d.isLt)]
  refine (Payloads.pay1_at _ _ q d).trans ?_
  simp only [s1_at, w_at]
  rfl

theorem fts_right (q : Fin 10000) (d : Fin 128) (h : 128 + d.val < 256) :
    ftsAt m c (ix2 q ⟨128 + d.val, h⟩) = feat (net m c).s2 (net m c).w q d := by
  unfold ftsAt feats
  have e : (⟨128 + d.val - 128, by omega⟩ : Fin 128) = d := Fin.ext (by simp)
  rw [dif_neg (show ¬ ((ix2 q (⟨128 + d.val, h⟩ : Fin 256) : S10000x256.Idx) 1).val < 128 from by
    show ¬ 128 + d.val < 128
    omega)]
  refine (congrArg (fun d' : Fin 128 => k0_pay2 _ _ (ix2 q d')) e).trans ((Payloads.pay2_at _ _ q d).trans ?_)
  simp only [s2_at, w_at]
  rfl

theorem pt_row (r : Fin 10000) : (pt (r.val / 400)).val * 400 + r.val % 400 = r.val := by
  show min (r.val / 400) 24 * 400 + r.val % 400 = r.val
  omega

/-- The left half of the hidden matrix: the first graph's hidden rows. -/
theorem hidden_left (r : Fin 10000) (d : Fin 128) (h : d.val < 256) :
    hidden m c (ix2 r ⟨d.val, h⟩) = (net m c).hid (net m c).s1 r d := by
  unfold Walk.hidden rows Net.hid
  have hr := pt_row r
  refine (Payloads.pay3_left _ _ _ _ ⟨r.val % 400, Nat.mod_lt _ (by decide)⟩ d h).trans ?_
  have e : ∀ q : Fin 10000, (blocks m c (pt (r.val / 400))).adj (ix2 ⟨r.val % 400, Nat.mod_lt _ (by decide)⟩ q)
      = (net m c).adj r q := fun q =>
    (adj_at m c _ _ q (by show (pt (r.val / 400)).val * 400 + r.val % 400 < 10000; omega)).trans
      (congrArg (fun r' : Fin 10000 => m (c.tc.loc main_arg2) (ix3 0 r' q)) (Fin.ext hr))
  have ea : (blocks m c (pt (r.val / 400))).a (ix1 0) = (net m c).a := a_at m c _
  have eb : (blocks m c (pt (r.val / 400))).b (ix2 0 d) = (net m c).b d := b_at m c _ d
  show act ((blocks m c (pt (r.val / 400))).a (ix1 0)) (∑ q : Fin 10000, (blocks m c (pt (r.val / 400))).adj
    (ix2 ⟨r.val % 400, Nat.mod_lt _ (by decide)⟩ q) * ftsAt m c (ix2 q ⟨d.val, h⟩)
      + (blocks m c (pt (r.val / 400))).b (ix2 0 d)) = _
  simp only [e, ea, eb, fts_left]

/-- The right half: the second graph's. -/
theorem hidden_right (r : Fin 10000) (d : Fin 128) (h : 128 + d.val < 256) :
    hidden m c (ix2 r ⟨128 + d.val, h⟩) = (net m c).hid (net m c).s2 r d := by
  unfold Walk.hidden rows Net.hid
  have hr := pt_row r
  refine (Payloads.pay3_right _ _ _ _ ⟨r.val % 400, Nat.mod_lt _ (by decide)⟩ d h).trans ?_
  have e : ∀ q : Fin 10000, (blocks m c (pt (r.val / 400))).adj (ix2 ⟨r.val % 400, Nat.mod_lt _ (by decide)⟩ q)
      = (net m c).adj r q := fun q =>
    (adj_at m c _ _ q (by show (pt (r.val / 400)).val * 400 + r.val % 400 < 10000; omega)).trans
      (congrArg (fun r' : Fin 10000 => m (c.tc.loc main_arg2) (ix3 0 r' q)) (Fin.ext hr))
  have ea : (blocks m c (pt (r.val / 400))).a (ix1 0) = (net m c).a := a_at m c _
  have eb : (blocks m c (pt (r.val / 400))).b (ix2 0 d) = (net m c).b d := b_at m c _ d
  show act ((blocks m c (pt (r.val / 400))).a (ix1 0)) (∑ q : Fin 10000, (blocks m c (pt (r.val / 400))).adj
    (ix2 ⟨r.val % 400, Nat.mod_lt _ (by decide)⟩ q) * ftsAt m c (ix2 q ⟨128 + d.val, h⟩)
      + (blocks m c (pt (r.val / 400))).b (ix2 0 d)) = _
  simp only [e, ea, eb, fts_right]

/-! ## The scores -/

/-- The kernel's readout is the first graph's, the weights' sum inverted once. -/
theorem readout_eq : Payloads.readout (blocks m c t).msk (leftHalf (hidden m c))
    = meanInv (net m c).msk ((net m c).hid (net m c).s1) := by
  have e1 : (fun r => (blocks m c t).msk (ix2 0 r)) = (net m c).msk := funext fun r => msk_at m c t r
  have e2 : (fun r k => leftHalf (hidden m c) (ix2 r k)) = (net m c).hid (net m c).s1 :=
    funext fun r => funext fun k => hidden_left m c r k _
  unfold Payloads.readout
  rw [e1, e2]

theorem wb_eq : (fun d k => (blocks m c t).wb (ix2 d k)) = (net m c).wb := funext fun d => funext fun k => wb_at m c t d k

theorem out_left (n : Fin 10000) :
    out m c t (ix2 0 n) = (net m c).scoreRev (net m c).s1 n + (net m c).sb1 n + (net m c).bb := by
  unfold out scores Net.scoreRev
  rw [if_pos (show ((ix2 (0 : Fin 2) n : S2x10000.Idx) 0).val = 0 from rfl)]
  refine (Payloads.row0_at _ _ _ _ _ _ n).trans ?_
  have e : (fun d : Fin 128 => hidden m c (ix2 n ⟨d.val, by omega⟩)) = (net m c).hid (net m c).s1 n :=
    funext fun d => hidden_left m c n d _
  rw [readout_eq, wb_eq, e, sb1_at, bb_at]
  rfl

theorem out_right (n : Fin 10000) :
    out m c t (ix2 1 n) = (net m c).scoreRev (net m c).s2 n + (net m c).sb2 n + (net m c).bb := by
  unfold out scores Net.scoreRev
  rw [if_neg (show ¬ ((ix2 (1 : Fin 2) n : S2x10000.Idx) 0).val = 0 from by
    show ¬ (1 : ℕ) = 0
    decide)]
  refine (Payloads.row1_at _ _ _ _ _ _ n).trans ?_
  have e : (fun d : Fin 128 => hidden m c (ix2 n ⟨128 + d.val, by omega⟩)) = (net m c).hid (net m c).s2 n :=
    funext fun d => hidden_right m c n d _
  rw [readout_eq, wb_eq, e, sb2_at, bb_at]
  rfl

/-- The two rows laid end to end. -/
theorem laid_left (x : Vec Ideal S2x10000 .f32) (n : Fin 10000) (h : n.val < 20000) :
    shapeCast S1x20000 x shapeCasts_S2x10000_S1x20000 (ix2 0 ⟨n.val, h⟩) = x (ix2 0 n) := by
  pointwise
  refine congrArg x ((ix2_inj _ _ _ _).2 ⟨Fin.ext ?_, Fin.ext ?_⟩)
  · show n.val / 10000 = 0
    omega
  · show n.val % 10000 = n.val
    omega

theorem laid_right (x : Vec Ideal S2x10000 .f32) (n : Fin 10000) (h : 10000 + n.val < 20000) :
    shapeCast S1x20000 x shapeCasts_S2x10000_S1x20000 (ix2 0 ⟨10000 + n.val, h⟩) = x (ix2 1 n) := by
  pointwise
  refine congrArg x ((ix2_inj _ _ _ _).2 ⟨Fin.ext ?_, Fin.ext ?_⟩)
  · show (10000 + n.val) / 10000 = 1
    omega
  · rfl

end Cert.KernelIdeal.Entries

end
-- ==== Proof.RefValue.lean ====
/- What the reference computes, read element by element over the extended reals. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Entries

open Cert.ReferenceIdeal.Gen Cert.ReferenceIdeal.Value Cert.Spec
open Idealize.ShloMosaic Idealize.ShloMosaic.TcCoe

variable (m : (ℓ : Loc nD τ sig) → Buf (Elt Ideal) ℓ) (c : Dev nD)

/-- The arguments in memory, by coordinates. -/
def net : Net := Net.ofArrays (m (c.tc.loc main_arg0)) (m (c.tc.loc main_arg1)) (m (c.tc.loc main_arg2))
  (m (c.tc.loc main_arg4)) (m (c.tc.loc main_arg5)) (m (c.tc.loc main_arg6)) (m (c.tc.loc main_arg7))
  (m (c.tc.loc main_arg8)) (m (c.tc.loc main_arg9)) (m (c.tc.loc main_arg10)) (m (c.tc.loc main_arg11))

/-- The first half of the result: the scores of the first graph's nodes. -/
theorem left_at (n : Fin 10000) (h : n.val < 20000) : res_main_v51 m c (ix2 0 ⟨n.val, h⟩)
    = (net m c).score (net m c).s1 n + (net m c).bb + (net m c).sb1 n := by
  unfold res_main_v51 Net.score form Net.readout mean Net.hid feat act net Net.ofArrays Ideal.logistic
  clean_types
  pointwise
  simp only [Finset.univ_unique, Finset.sum_singleton]

/-- The second half: the scores of the second graph's nodes, against the first graph's readout. -/
theorem right_at (n : Fin 10000) (h : 10000 + n.val < 20000) : res_main_v51 m c (ix2 0 ⟨10000 + n.val, h⟩)
    = (net m c).score (net m c).s2 n + (net m c).bb + (net m c).sb2 n := by
  unfold res_main_v51 Net.score form Net.readout mean Net.hid feat act net Net.ofArrays Ideal.logistic
  clean_types
  pointwise
  simp only [Finset.univ_unique, Finset.sum_singleton]

end Cert.ReferenceIdeal.Entries

end
-- ==== Proof.Equation.lean ====
/- The two orders of the score agree: the weights' sum inverted once is a division by it, and the bilinear form is the
   same summed either way where its entries are finite. -/
module

public import proofs.«01_k».proof.Proof.Spec

@[expose] public section

noncomputable section

namespace Cert.Spec

open Idealize.ShloMosaic

/-- The extended reals that are real numbers. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real numbers is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem IsReal.act {a x : EReal} (ha : IsReal a) (hx : IsReal x) : IsReal (act a x) := by
  unfold Spec.act
  split
  · exact hx
  · exact ha.mul hx

/-- A logistic is a real number, at the two infinities too. -/
theorem IsReal.logistic (x : EReal) : IsReal (Ideal.logistic x) := by
  induction x using EReal.rec with
  | bot => exact ⟨0, by simp⟩
  | coe r => exact ⟨_, Ideal.logistic_coe r⟩
  | top => exact ⟨1, by simp⟩

/-- The bilinear form, contracted in either order. -/
theorem formRev_eq (h c : Fin 128 → EReal) (wb : Fin 128 → Fin 128 → EReal) (hh : ∀ d, IsReal (h d)) (hc : ∀ k, IsReal (c k))
    (hw : ∀ d k, IsReal (wb d k)) : formRev h c wb = form h c wb := by
  choose h' eh using hh
  choose c' ec using hc
  choose w' ew using hw
  unfold formRev form
  simp only [eh, ec, ew, ← EReal.coe_mul, coe_sum]
  congr 1
  simp only [Finset.sum_mul, Finset.mul_sum]
  rw [Finset.sum_comm]
  exact Finset.sum_congr rfl fun k _ => Finset.sum_congr rfl fun d _ => mul_assoc _ _ _

/-- Dividing by a sum that is not zero is multiplying by its inverse. -/
theorem meanInv_eq (msk : Fin 10000 → EReal) (h : Fin 10000 → Fin 128 → EReal) (hm : ∑ r, msk r ≠ 0) :
    meanInv msk h = mean msk h := by
  funext k
  unfold meanInv mean Ideal.div
  rw [if_neg hm, if_neg hm, one_mul]
  simp only [mul_comm]

namespace Net

/-- What the equation needs: the mask's weights do not sum to zero, and the numbers that enter the hidden rows and the
    bilinear weight are finite. -/
structure Tame (x : Net) : Prop where
  msk : ∑ r, x.msk r ≠ 0
  s1 : ∀ q k, IsReal (x.s1 q k)
  s2 : ∀ q k, IsReal (x.s2 q k)
  adj : ∀ r q, IsReal (x.adj r q)
  w : ∀ d k, IsReal (x.w d k)
  b : ∀ d, IsReal (x.b d)
  a : IsReal x.a
  wb : ∀ d k, IsReal (x.wb d k)

variable {x : Net}

theorem Tame.hid (t : x.Tame) {s : Fin 10000 → Fin 128 → EReal} (hs : ∀ q k, IsReal (s q k)) (r : Fin 10000) (d : Fin 128) :
    IsReal (x.hid s r d) :=
  IsReal.act t.a (IsReal.add (IsReal.sum fun q => (t.adj r q).mul (IsReal.sum fun k => (hs q k).mul (t.w d k))) (t.b d))

/-- The two scores are one number. -/
theorem Tame.score (t : x.Tame) {s : Fin 10000 → Fin 128 → EReal} (hs : ∀ q k, IsReal (s q k)) (r : Fin 10000) :
    x.scoreRev s r = x.score s r := by
  unfold Net.scoreRev Net.score Net.readout
  rw [meanInv_eq _ _ t.msk]
  exact formRev_eq _ _ _ (t.hid hs r) (fun k => IsReal.logistic _) t.wb

end Net

end Cert.Spec

end
-- ==== Proof.Result.lean ====
/- The kernel's result is the reference's, entry by entry. -/
module

public import proofs.«01_k».proof.Proof.Entries
public import proofs.«01_k».proof.Proof.RefValue
public import proofs.«01_k».proof.Proof.Equation

@[expose] public section

set_option maxRecDepth 16384

noncomputable section

namespace Cert.Result

open Cert.Spec
open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.KernelIdeal in
/-- The kernel's result, as it is laid out at the end. -/
def kernelResult : Vec Ideal S1x20000 .f32 :=
  shapeCast S1x20000 (Walk.out m c (Walk.pt 24)) Gen.shapeCasts_S2x10000_S1x20000

/-- An index of the result lies in its first or its second half. -/
theorem halves (P : (⟨2, ![1, 20000]⟩ : Shape).Idx → Prop)
    (hl : ∀ (n : Fin 10000) (h : n.val < 20000), P (ix2 0 ⟨n.val, h⟩))
    (hr : ∀ (n : Fin 10000) (h : 10000 + n.val < 20000), P (ix2 0 ⟨10000 + n.val, h⟩)) (j) : P j := by
  have hj : (j 1).val < 20000 := (j 1).isLt
  have e0 : j 0 = (0 : Fin 1) := Fin.ext (by
    have : (j 0).val < 1 := (j 0).isLt
    show (j 0).val = 0
    omega)
  rw [eq_ix2 j, e0]
  by_cases h : (j 1).val < 10000
  · exact hl ⟨(j 1).val, h⟩ hj
  · have := hr ⟨(j 1).val - 10000, by omega⟩ (by show 10000 + ((j 1).val - 10000) < 20000; omega)
    have e : (⟨10000 + ((j 1).val - 10000), by omega⟩ : Fin 20000) = j 1 := Fin.ext (by
      show 10000 + ((j 1).val - 10000) = (j 1).val
      omega)
    exact e ▸ this

/-- From the same arguments, tame ones, the two results are one array. -/
theorem result_eq (hn : Cert.ReferenceIdeal.Entries.net m' c = Cert.KernelIdeal.Entries.net m c)
    (ht : (Cert.KernelIdeal.Entries.net m c).Tame) :
    (Cert.ReferenceIdeal.Value.res_main_v51 m' c : Vec Ideal Cert.KernelIdeal.S1x20000 .f32) = kernelResult m c := by
  funext j
  unfold kernelResult
  refine halves (fun j => (Cert.ReferenceIdeal.Value.res_main_v51 m' c : Vec Ideal Cert.KernelIdeal.S1x20000 .f32) j
    = shapeCast _ _ _ j) (fun n h => ?_) (fun n h => ?_) j
  · refine (Cert.ReferenceIdeal.Entries.left_at m' c n h).trans ?_
    refine Eq.trans ?_ ((Cert.KernelIdeal.Entries.laid_left _ n h).trans (Cert.KernelIdeal.Entries.out_left m c _ n)).symm
    rw [hn, ht.score ht.s1]
    exact @add_right_comm EReal _ _ _ _
  · refine (Cert.ReferenceIdeal.Entries.right_at m' c n h).trans ?_
    refine Eq.trans ?_ ((Cert.KernelIdeal.Entries.laid_right _ n h).trans (Cert.KernelIdeal.Entries.out_right m c _ n)).symm
    rw [hn, ht.score ht.s2]
    exact @add_right_comm EReal _ _ _ _

end Cert.Result

end
-- ==== Proof.Tame.lean ====
/- What the precondition says of the arguments: the mask's weights do not sum to zero, and the numbers that enter the
   hidden rows and the bilinear weight are real. -/
module

public import proofs.«01_k».proof.Proof.Gen.Pre_tame
public import proofs.«01_k».proof.Proof.Equation
public import Idealize.ShloMosaic.Lib.Pointwise
public import Idealize.ShloMosaic.Lib.ReduceAll

@[expose] public section

set_option maxRecDepth 16384

noncomputable section

namespace Cert.Tame

open Cert.Pre_tame Cert.Pre_tame.Facts Cert.Spec
open Idealize.ShloMosaic

instance : Subsingleton S_.Idx := ⟨fun i j => funext fun a => a.elim0⟩

/-- An extended real whose magnitude compares below anything is a real number. -/
theorem isReal_of_abs (x y : EReal) (h : Ideal.cmp .olt (max x (-x)) y = 1#1) : IsReal x := by
  have hlt : max x (-x) < y := by
    by_contra hn
    have : BitVec.ofBool (decide (max x (-x) < y)) = 1#1 := h
    rw [decide_eq_false hn] at this
    exact absurd this (by decide)
  induction x using EReal.rec with
  | bot => exact absurd hlt (by simp)
  | coe r => exact ⟨r, rfl⟩
  | top => exact absurd hlt (by simp)

/-- An array all of whose magnitudes compare below a bound is an array of real numbers. -/
theorem isReal_of_all {s : Shape} {axes : List (Fin s.rank)} (x bound : FVec Ideal s .f32) (hr : s.ReducesTo axes S_) (hp : 0 < S_.numel)
    (e : Host.reduce IntOp.andi (cmpf .olt (Host.absf x) bound) (constantI S_ 1 1#1) hr hp ix0 = 1#1) (i : s.Idx) : IsReal (x i) :=
  isReal_of_abs (x i) (bound i) (Host.reduce_andi_all _ _ _ _ ix0 e i)

variable [Cert.Pre_tame.Facts]

/-- The mask's weights' sum compares different from zero. -/
theorem sum_ne (msk : FVec Ideal S1x10000 .f32)
    (e : cmpf .une (Host.reduceAdd msk (constant S_ .f32 0x00000000#32) reducesTo_S1x10000_S_d0_1 h_S_)
      (constant S_ .f32 0x00000000#32) ix0 = 1#1) : ∑ r : Fin 10000, msk (ix2 0 r) ≠ 0 := by
  intro hz
  have e' : cmpf .une (Host.reduceAdd msk (constant S_ .f32 0x00000000#32) reducesTo_S1x10000_S_d0_1 h_S_)
      (constant S_ .f32 0x00000000#32) ix0 = BitVec.ofBool (decide ((∑ r : Fin 10000, msk (ix2 0 r)) ≠ 0)) := by
    pointwise
    simp only [Finset.univ_unique, Finset.sum_singleton]
    rfl
  rw [e', decide_eq_false (not_not.2 hz)] at e
  exact absurd e (by decide)

/-- The precondition, taken apart. -/
theorem tame_of (s1 s2 : FVec Ideal S1x10000x128 .f32) (adj : FVec Ideal S1x10000x10000 .f32) (sp : IVec S_ 32)
    (msk sb1 sb2 : FVec Ideal S1x10000 .f32) (w : FVec Ideal S128x128 .f32) (b : FVec Ideal S128 .f32) (a : FVec Ideal S1 .f32)
    (wb : FVec Ideal S1x128x128 .f32) (bb : FVec Ideal S1 .f32)
    (h : fn (F := Ideal) s1 s2 adj sp msk sb1 sb2 w b a wb bb = fun _ => 1#1) :
    (∑ r : Fin 10000, msk (ix2 0 r) ≠ 0) ∧ (∀ i, IsReal (s1 i)) ∧ (∀ i, IsReal (s2 i)) ∧ (∀ i, IsReal (adj i))
      ∧ (∀ i, IsReal (w i)) ∧ (∀ i, IsReal (b i)) ∧ (∀ i, IsReal (a i)) ∧ (∀ i, IsReal (wb i)) := by
  have e := congrFun h ix0
  simp only [fn, fn_part1, fn_part2, andi_apply, IntOp.andi_eq_one] at e
  obtain ⟨⟨⟨⟨⟨⟨⟨e0, e1⟩, e2⟩, e3⟩, e4⟩, e5⟩, e6⟩, e7⟩ := e
  exact ⟨sum_ne msk e0, isReal_of_all _ _ reducesTo_S1x10000x128_S_d0_1_2 h_S_ e1,
    isReal_of_all _ _ reducesTo_S1x10000x128_S_d0_1_2 h_S_ e2, isReal_of_all _ _ reducesTo_S1x10000x10000_S_d0_1_2 h_S_ e3,
    isReal_of_all _ _ reducesTo_S128x128_S_d0_1 h_S_ e4, isReal_of_all _ _ reducesTo_S128_S_d0 h_S_ e5,
    isReal_of_all _ _ reducesTo_S1_S_d0 h_S_ e6, isReal_of_all _ _ reducesTo_S1x128x128_S_d0_1_2 h_S_ e7⟩

end Cert.Tame

end
-- ==== Proof.SameText.lean ====
/- The kernel and its reading over the extended reals are one text, printed under two names: read with float
   words, the second one's definitions are the first one's, so what was proved of its run holds of the kernel's. -/
module

public import proofs.«01_k».proof.Defs
public import proofs.«01_k».proof.Proof.Gen.Kernel
public import proofs.«01_k».proof.Proof.Gen.KernelIdeal
public import Idealize.ShloMosaic.Lib.Claim

@[expose] public section

-- the two bodies are compared operation by operation, in one step
set_option maxHeartbeats 2000000

noncomputable section

namespace Cert.SameText

open Idealize.ShloMosaic Idealize.SL.Sem

attribute [local instance] Cert.Kernel.Gen.facts Cert.KernelIdeal.Gen.facts

/-- The two body tables agree: each holds one body, the same line by line. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So do the tables that the pipelines add their own bodies to. -/
theorem defs_eq : Cert.Kernel.defs (F := Bits) = Cert.KernelIdeal.defs (F := Bits) :=
  congrArg (Pipeline.defs (Cert.Kernel.pcfgs (F := Bits))) bodies_eq

/-- What holds of every run of one program holds of every run of an equal one. -/
theorem run_of_eq {nD : Nat} {τ : Topo} {sig : RefSig} {Val : EltTy → Type} {Λ : Labels} {defs defs' : Defs nD τ sig Val Λ}
    {p p' : (c : Thread nD τ) → Prog (TpuEff nD τ sig Val Λ c.2) PUnit} {s : MemSt nD τ sig Val}
    {Q : PUnit × MemSt nD τ sig Val → Prop} (hd : defs = defs') (hp : p = p') (h : θ_run defs' p' s Q) : θ_run defs p s Q := by
  subst hd hp
  exact h

end Cert.SameText

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Region
public import proofs.«01_k».proof.Proof.Final
public import proofs.«01_k».proof.Proof.Result
public import proofs.«01_k».proof.Proof.Tame
public import proofs.«01_k».proof.Proof.SameText
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Spec
open Idealize.ShloMosaic.TcCoe

attribute [local instance] Cert.Kernel.Gen.facts Cert.KernelIdeal.Gen.facts Cert.ReferenceIdeal.Gen.facts Cert.Pre_tame.Gen.facts

/-- The kernel runs to the end, keeps its arguments and leaves every counter at zero. -/
theorem frame_kernel : Cert.quiescent_Kernel := fun m ρ _ =>
  Cert.SameText.run_of_eq Cert.SameText.defs_eq rfl (Cert.KernelIdeal.Walk.frame (F := Bits) m ρ)

/-- So does its reading over the extended reals. -/
theorem frame_ideal : Cert.quiescent_KernelIdeal := fun m ρ _ => Cert.KernelIdeal.Walk.frame m ρ

theorem frame_ideal_tame : Cert.quiescent_KernelIdeal_pre_tame := fun m ρ _ => Cert.KernelIdeal.Walk.frame m ρ

/-- The reference is host operations only, with no counters to leave. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_tame : Cert.quiescent_ReferenceIdeal_pre_tame := fun m ρ _ => frame_reference m ρ trivial

/-- No operation was rewritten in the reading over the extended reals. -/
theorem preserves : Cert.preserves_Kernel_KernelIdeal := trivial

/-- Memories that agree on the arguments hold the same numbers by coordinates. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9))
    (h10 : m' (c.tc.loc Cert.ReferenceIdeal.main_arg10) = m (c.tc.loc Cert.KernelIdeal.main_arg10))
    (h11 : m' (c.tc.loc Cert.ReferenceIdeal.main_arg11) = m (c.tc.loc Cert.KernelIdeal.main_arg11)) :
    Cert.ReferenceIdeal.Entries.net m' c = Cert.KernelIdeal.Entries.net m c := by
  unfold Cert.ReferenceIdeal.Entries.net Cert.KernelIdeal.Entries.net
  rw [h0, h1, h2, h4, h5, h6, h7, h8, h9, h10, h11]

/-- What the precondition says of the numbers by coordinates. -/
theorem net_tame (m : (ℓ : Loc Cert.KernelIdeal.nD Cert.KernelIdeal.τ Cert.KernelIdeal.sig) → Buf (Elt Ideal) ℓ)
    (h : Cert.Pre_KernelIdeal_tame m) (c : Dev Cert.KernelIdeal.nD) : (Cert.KernelIdeal.Entries.net m c).Tame := by
  obtain ⟨k0, k1, k2, k3, k4, k5, k6, k7⟩ := Cert.Tame.tame_of _ _ _ _ _ _ _ _ _ _ _ _ (h c)
  exact ⟨k0, fun q k => k1 _, fun q k => k2 _, fun r q => k3 _, fun d k => k4 _, fun d => k5 _, k6 _, fun d k => k7 _⟩

/-- The kernel's result is the reference's. -/
theorem algebraic : Cert.algebraic_KernelIdeal_ReferenceIdeal_pre_tame := by
  intro m ρ m' ρ' hpre hagree
  refine ⟨fun c => Cert.Result.kernelResult m c, ?_, ?_⟩
  · exact θ_run_mono (θ_run_and (Cert.KernelIdeal.Walk.run_result m ρ) (Cert.KernelIdeal.Walk.frame m ρ))
      (fun r h c => ⟨h.1 c, h.2.1 c⟩)
  · refine θ_run_mono (Cert.ReferenceIdeal.Value.run m' ρ') (fun r h c => ⟨(h c).1.trans ?_, (h c).2⟩)
    obtain ⟨h0, h1, h2, -, h4, h5, h6, h7, h8, h9, h10, h11⟩ := hagree c
    exact Cert.Result.result_eq m m' c (net_eq m m' c h0 h1 h2 h4 h5 h6 h7 h8 h9 h10 h11) (net_tame m hpre c)

theorem claim : Cert.Claim := ⟨Cert.Kernel.Gen.facts, Cert.KernelIdeal.Gen.facts, Cert.ReferenceIdeal.Gen.facts,
  Cert.Pre_tame.Gen.facts, frame_kernel, frame_ideal, frame_ideal_tame, frame_reference, frame_reference_tame, preserves, algebraic⟩

end Cert.Proof

end
